-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_BuildV (m : (ℓ : Loc Cert.BuildV.nD Cert.BuildV.τ Cert.BuildV.sig) → Buf (Elt Bits) ℓ) : Prop :=
  True

def Pre_BuildVIdeal (m : (ℓ : Loc Cert.BuildVIdeal.nD Cert.BuildVIdeal.τ Cert.BuildVIdeal.sig) → Buf (Elt Ideal) ℓ) : Prop :=
  True

def Pre_BuildVRefIdeal (m : (ℓ : Loc Cert.BuildVRefIdeal.nD Cert.BuildVRefIdeal.τ Cert.BuildVRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_BuildV [hBuildV : Cert.BuildV.Facts] : Prop :=
  ∀ (m : (ℓ : Loc Cert.BuildV.nD Cert.BuildV.τ Cert.BuildV.sig) → Buf (Elt Bits) ℓ) (g : Dev Cert.BuildV.nD → PrngReg), Pre_BuildV m →
    θ_run (Cert.BuildV.defs (F := Bits)) (onTc (τ := Cert.BuildV.τ) (Cert.BuildV.main (F := Bits))) ⟨m, fun _ => 0, g⟩ (fun r => (∀ c : Dev Cert.BuildV.nD,
      r.2.mem ((c.tc : Thread Cert.BuildV.nD Cert.BuildV.τ).loc Cert.BuildV.main_arg0) = m ((c.tc : Thread Cert.BuildV.nD Cert.BuildV.τ).loc Cert.BuildV.main_arg0)
      ∧ r.2.mem ((c.tc : Thread Cert.BuildV.nD Cert.BuildV.τ).loc Cert.BuildV.main_arg1) = m ((c.tc : Thread Cert.BuildV.nD Cert.BuildV.τ).loc Cert.BuildV.main_arg1)
      ∧ r.2.mem ((c.tc : Thread Cert.BuildV.nD Cert.BuildV.τ).loc Cert.BuildV.main_arg2) = m ((c.tc : Thread Cert.BuildV.nD Cert.BuildV.τ).loc Cert.BuildV.main_arg2)
      ∧ r.2.mem ((c.tc : Thread Cert.BuildV.nD Cert.BuildV.τ).loc Cert.BuildV.main_arg3) = m ((c.tc : Thread Cert.BuildV.nD Cert.BuildV.τ).loc Cert.BuildV.main_arg3))
      ∧ r.2.sem = fun _ => 0)

def quiescent_BuildVIdeal [hBuildVIdeal : Cert.BuildVIdeal.Facts] : Prop :=
  ∀ (m : (ℓ : Loc Cert.BuildVIdeal.nD Cert.BuildVIdeal.τ Cert.BuildVIdeal.sig) → Buf (Elt Ideal) ℓ) (g : Dev Cert.BuildVIdeal.nD → PrngReg), Pre_BuildVIdeal m →
    θ_run (Cert.BuildVIdeal.defs (F := Ideal)) (onTc (τ := Cert.BuildVIdeal.τ) (Cert.BuildVIdeal.main (F := Ideal))) ⟨m, fun _ => 0, g⟩ (fun r => (∀ c : Dev Cert.BuildVIdeal.nD,
      r.2.mem ((c.tc : Thread Cert.BuildVIdeal.nD Cert.BuildVIdeal.τ).loc Cert.BuildVIdeal.main_arg0) = m ((c.tc : Thread Cert.BuildVIdeal.nD Cert.BuildVIdeal.τ).loc Cert.BuildVIdeal.main_arg0)
      ∧ r.2.mem ((c.tc : Thread Cert.BuildVIdeal.nD Cert.BuildVIdeal.τ).loc Cert.BuildVIdeal.main_arg1) = m ((c.tc : Thread Cert.BuildVIdeal.nD Cert.BuildVIdeal.τ).loc Cert.BuildVIdeal.main_arg1)
      ∧ r.2.mem ((c.tc : Thread Cert.BuildVIdeal.nD Cert.BuildVIdeal.τ).loc Cert.BuildVIdeal.main_arg2) = m ((c.tc : Thread Cert.BuildVIdeal.nD Cert.BuildVIdeal.τ).loc Cert.BuildVIdeal.main_arg2)
      ∧ r.2.mem ((c.tc : Thread Cert.BuildVIdeal.nD Cert.BuildVIdeal.τ).loc Cert.BuildVIdeal.main_arg3) = m ((c.tc : Thread Cert.BuildVIdeal.nD Cert.BuildVIdeal.τ).loc Cert.BuildVIdeal.main_arg3))
      ∧ r.2.sem = fun _ => 0)

def quiescent_BuildVRefIdeal [hBuildVRefIdeal : Cert.BuildVRefIdeal.Facts] : Prop :=
  ∀ (m : (ℓ : Loc Cert.BuildVRefIdeal.nD Cert.BuildVRefIdeal.τ Cert.BuildVRefIdeal.sig) → Buf (Elt Ideal) ℓ) (g : Dev Cert.BuildVRefIdeal.nD → PrngReg), Pre_BuildVRefIdeal m →
    θ_run (Cert.BuildVRefIdeal.defs (F := Ideal)) (onTc (τ := Cert.BuildVRefIdeal.τ) (Cert.BuildVRefIdeal.main (F := Ideal))) ⟨m, fun _ => 0, g⟩ (fun r => (∀ c : Dev Cert.BuildVRefIdeal.nD,
      r.2.mem ((c.tc : Thread Cert.BuildVRefIdeal.nD Cert.BuildVRefIdeal.τ).loc Cert.BuildVRefIdeal.main_arg0) = m ((c.tc : Thread Cert.BuildVRefIdeal.nD Cert.BuildVRefIdeal.τ).loc Cert.BuildVRefIdeal.main_arg0)
      ∧ r.2.mem ((c.tc : Thread Cert.BuildVRefIdeal.nD Cert.BuildVRefIdeal.τ).loc Cert.BuildVRefIdeal.main_arg1) = m ((c.tc : Thread Cert.BuildVRefIdeal.nD Cert.BuildVRefIdeal.τ).loc Cert.BuildVRefIdeal.main_arg1)
      ∧ r.2.mem ((c.tc : Thread Cert.BuildVRefIdeal.nD Cert.BuildVRefIdeal.τ).loc Cert.BuildVRefIdeal.main_arg2) = m ((c.tc : Thread Cert.BuildVRefIdeal.nD Cert.BuildVRefIdeal.τ).loc Cert.BuildVRefIdeal.main_arg2)
      ∧ r.2.mem ((c.tc : Thread Cert.BuildVRefIdeal.nD Cert.BuildVRefIdeal.τ).loc Cert.BuildVRefIdeal.main_arg3) = m ((c.tc : Thread Cert.BuildVRefIdeal.nD Cert.BuildVRefIdeal.τ).loc Cert.BuildVRefIdeal.main_arg3))
      ∧ r.2.sem = fun _ => 0)

def preserves_Kernel_KernelIdeal : Prop :=
  True

def algebraic_KernelIdeal_ReferenceIdeal_on_positive_norm [hKernelIdeal : Cert.KernelIdeal.Facts] [hReferenceIdeal : Cert.ReferenceIdeal.Facts] [hOn_positive_norm : Cert.On_positive_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12288, 3584]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v7_0) i = v0 c i)
          ∧ (∀ i : (⟨2, ![16, 3584]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v7_1) i = v1 c i)
          ∧ (∀ i : (⟨2, ![16, 18944]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v7_2) i = v2 c i)
          ∧ (∀ i : (⟨2, ![1, 18944]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.KernelIdeal.nD Cert.KernelIdeal.τ).loc Cert.KernelIdeal.main_v7_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12288, 3584]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v46) i = v0 c i)
          ∧ (∀ i : (⟨2, ![16, 3584]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v47) i = v1 c i)
          ∧ (∀ i : (⟨2, ![16, 18944]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v45) i = v2 c i)
          ∧ (∀ i : (⟨2, ![1, 18944]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.ReferenceIdeal.nD Cert.ReferenceIdeal.τ).loc Cert.ReferenceIdeal.main_v48) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_BuildV_BuildVIdeal : Prop :=
  IdealRules.bf16_pair.PackStatement Cert.BuildVIdeal.S64x512
  ∧ IdealRules.bf16_pair.Statement Cert.BuildVIdeal.S128x512 Cert.BuildVIdeal.S64x512

def algebraic_BuildVIdeal_BuildVRefIdeal [hBuildVIdeal : Cert.BuildVIdeal.Facts] [hBuildVRefIdeal : Cert.BuildVRefIdeal.Facts] : Prop :=
  ∀ (m : (ℓ : Loc Cert.BuildVIdeal.nD Cert.BuildVIdeal.τ Cert.BuildVIdeal.sig) → Buf (Elt Ideal) ℓ) (g : Dev Cert.BuildVIdeal.nD → PrngReg)
    (m' : (ℓ : Loc Cert.BuildVRefIdeal.nD Cert.BuildVRefIdeal.τ Cert.BuildVRefIdeal.sig) → Buf (Elt Ideal) ℓ) (g' : Dev Cert.BuildVRefIdeal.nD → PrngReg), Pre_BuildVIdeal m →
    (∀ c : Dev Cert.BuildVIdeal.nD,
      m' ((c.tc : Thread Cert.BuildVRefIdeal.nD Cert.BuildVRefIdeal.τ).loc Cert.BuildVRefIdeal.main_arg0) = m ((c.tc : Thread Cert.BuildVIdeal.nD Cert.BuildVIdeal.τ).loc Cert.BuildVIdeal.main_arg0)
      ∧ m' ((c.tc : Thread Cert.BuildVRefIdeal.nD Cert.BuildVRefIdeal.τ).loc Cert.BuildVRefIdeal.main_arg1) = m ((c.tc : Thread Cert.BuildVIdeal.nD Cert.BuildVIdeal.τ).loc Cert.BuildVIdeal.main_arg1)
      ∧ m' ((c.tc : Thread Cert.BuildVRefIdeal.nD Cert.BuildVRefIdeal.τ).loc Cert.BuildVRefIdeal.main_arg2) = m ((c.tc : Thread Cert.BuildVIdeal.nD Cert.BuildVIdeal.τ).loc Cert.BuildVIdeal.main_arg2)
      ∧ m' ((c.tc : Thread Cert.BuildVRefIdeal.nD Cert.BuildVRefIdeal.τ).loc Cert.BuildVRefIdeal.main_arg3) = m ((c.tc : Thread Cert.BuildVIdeal.nD Cert.BuildVIdeal.τ).loc Cert.BuildVIdeal.main_arg3)) →
    ∃ (v0 : (c : Dev Cert.BuildVIdeal.nD) → Buf (Elt Ideal) ((c.tc : Thread Cert.BuildVIdeal.nD Cert.BuildVIdeal.τ).loc Cert.BuildVIdeal.main_v3)),
      θ_run (Cert.BuildVIdeal.defs (F := Ideal)) (onTc (τ := Cert.BuildVIdeal.τ) (Cert.BuildVIdeal.main (F := Ideal))) ⟨m, fun _ => 0, g⟩ (fun r => ∀ c : Dev Cert.BuildVIdeal.nD,
          r.2.mem ((c.tc : Thread Cert.BuildVIdeal.nD Cert.BuildVIdeal.τ).loc Cert.BuildVIdeal.main_v3) = v0 c
          ∧ r.2.mem ((c.tc : Thread Cert.BuildVIdeal.nD Cert.BuildVIdeal.τ).loc Cert.BuildVIdeal.main_arg0) = m ((c.tc : Thread Cert.BuildVIdeal.nD Cert.BuildVIdeal.τ).loc Cert.BuildVIdeal.main_arg0)
          ∧ r.2.mem ((c.tc : Thread Cert.BuildVIdeal.nD Cert.BuildVIdeal.τ).loc Cert.BuildVIdeal.main_arg1) = m ((c.tc : Thread Cert.BuildVIdeal.nD Cert.BuildVIdeal.τ).loc Cert.BuildVIdeal.main_arg1)
          ∧ r.2.mem ((c.tc : Thread Cert.BuildVIdeal.nD Cert.BuildVIdeal.τ).loc Cert.BuildVIdeal.main_arg2) = m ((c.tc : Thread Cert.BuildVIdeal.nD Cert.BuildVIdeal.τ).loc Cert.BuildVIdeal.main_arg2)
          ∧ r.2.mem ((c.tc : Thread Cert.BuildVIdeal.nD Cert.BuildVIdeal.τ).loc Cert.BuildVIdeal.main_arg3) = m ((c.tc : Thread Cert.BuildVIdeal.nD Cert.BuildVIdeal.τ).loc Cert.BuildVIdeal.main_arg3))
      ∧ θ_run (Cert.BuildVRefIdeal.defs (F := Ideal)) (onTc (τ := Cert.BuildVRefIdeal.τ) (Cert.BuildVRefIdeal.main (F := Ideal))) ⟨m', fun _ => 0, g'⟩ (fun r => ∀ c : Dev Cert.BuildVRefIdeal.nD,
          r.2.mem ((c.tc : Thread Cert.BuildVRefIdeal.nD Cert.BuildVRefIdeal.τ).loc Cert.BuildVRefIdeal.main_v46) = v0 c
          ∧ r.2.mem ((c.tc : Thread Cert.BuildVRefIdeal.nD Cert.BuildVRefIdeal.τ).loc Cert.BuildVRefIdeal.main_arg0) = m' ((c.tc : Thread Cert.BuildVRefIdeal.nD Cert.BuildVRefIdeal.τ).loc Cert.BuildVRefIdeal.main_arg0)
          ∧ r.2.mem ((c.tc : Thread Cert.BuildVRefIdeal.nD Cert.BuildVRefIdeal.τ).loc Cert.BuildVRefIdeal.main_arg1) = m' ((c.tc : Thread Cert.BuildVRefIdeal.nD Cert.BuildVRefIdeal.τ).loc Cert.BuildVRefIdeal.main_arg1)
          ∧ r.2.mem ((c.tc : Thread Cert.BuildVRefIdeal.nD Cert.BuildVRefIdeal.τ).loc Cert.BuildVRefIdeal.main_arg2) = m' ((c.tc : Thread Cert.BuildVRefIdeal.nD Cert.BuildVRefIdeal.τ).loc Cert.BuildVRefIdeal.main_arg2)
          ∧ r.2.mem ((c.tc : Thread Cert.BuildVRefIdeal.nD Cert.BuildVRefIdeal.τ).loc Cert.BuildVRefIdeal.main_arg3) = m' ((c.tc : Thread Cert.BuildVRefIdeal.nD Cert.BuildVRefIdeal.τ).loc Cert.BuildVRefIdeal.main_arg3))

def Claim : Prop :=
  ∃ (hKernel : Cert.Kernel.Facts) (hKernelIdeal : Cert.KernelIdeal.Facts) (hReferenceIdeal : Cert.ReferenceIdeal.Facts) (hBuildV : Cert.BuildV.Facts) (hBuildVIdeal : Cert.BuildVIdeal.Facts) (hBuildVRefIdeal : Cert.BuildVRefIdeal.Facts) (hOn_positive_norm : Cert.On_positive_norm.Facts),
    quiescent_Kernel (hKernel := hKernel)
    ∧ quiescent_KernelIdeal (hKernelIdeal := hKernelIdeal)
    ∧ quiescent_ReferenceIdeal (hReferenceIdeal := hReferenceIdeal)
    ∧ quiescent_BuildV (hBuildV := hBuildV)
    ∧ quiescent_BuildVIdeal (hBuildVIdeal := hBuildVIdeal)
    ∧ quiescent_BuildVRefIdeal (hBuildVRefIdeal := hBuildVRefIdeal)
    ∧ preserves_Kernel_KernelIdeal
    ∧ algebraic_KernelIdeal_ReferenceIdeal_on_positive_norm (hKernelIdeal := hKernelIdeal) (hReferenceIdeal := hReferenceIdeal) (hOn_positive_norm := hOn_positive_norm)
    ∧ preserves_BuildV_BuildVIdeal
    ∧ algebraic_BuildVIdeal_BuildVRefIdeal (hBuildVIdeal := hBuildVIdeal) (hBuildVRefIdeal := hBuildVRefIdeal)
-- ==== On_positive_norm.lean ====
abbrev S12x1024x18944 : Shape := ⟨3, ![12, 1024, 18944]⟩
abbrev S12x1024x3584 : Shape := ⟨3, ![12, 1024, 3584]⟩
abbrev S12x1024x112 : Shape := ⟨3, ![12, 1024, 112]⟩
abbrev S37x3584x512 : Shape := ⟨3, ![37, 3584, 512]⟩
abbrev S3584x16 : Shape := ⟨2, ![3584, 16]⟩
abbrev S16x18944 : Shape := ⟨2, ![16, 18944]⟩
abbrev S18944 : Shape := ⟨1, ![18944]⟩
abbrev S_ : Shape := ⟨0, ![]⟩
abbrev S12288x3584 : Shape := ⟨2, ![12288, 3584]⟩
abbrev S16x3584 : Shape := ⟨2, ![16, 3584]⟩
abbrev S1x18944 : Shape := ⟨2, ![1, 18944]⟩

class Facts : Prop where
  bcast_S_S12288x3584 : S_.BroadcastsInDim S12288x3584 (![] : Fin 0 → Fin S12288x3584.rank)
  bcast_S_S16x3584 : S_.BroadcastsInDim S16x3584 (![] : Fin 0 → Fin S16x3584.rank)
  bcast_S_S16x18944 : S_.BroadcastsInDim S16x18944 (![] : Fin 0 → Fin S16x18944.rank)
  bcast_S_S18944 : S_.BroadcastsInDim S18944 (![] : Fin 0 → Fin S18944.rank)
  shapeCasts_S18944_S1x18944 : S18944.ShapeCasts S1x18944

variable [Facts]

def fn {F : FTy → Type} [FloatOps F] (main_arg0 : FVec F S12x1024x18944 .bf16) (main_arg1 : FVec F S12x1024x3584 .fp8e4m3) (main_arg2 : FVec F S12x1024x112 .f32) (main_arg3 : FVec F S37x3584x512 .bf16) (main_arg4 : FVec F S3584x16 .bf16) (main_arg5 : FVec F S16x18944 .bf16) (main_arg6 : FVec F S18944 .f32) (main_arg7 : FVec F S18944 .f32) : IVec S12288x3584 1 × IVec S16x3584 1 × IVec S16x18944 1 × IVec S1x18944 1 :=
  let main_c : IVec S_ 1 := constantI S_ 1 1#1
  let main_v0 : IVec S12288x3584 1 := broadcastInDim S12288x3584 ![] bcast_S_S12288x3584 main_c
  let main_c_0 : IVec S_ 1 := constantI S_ 1 1#1
  let main_v1 : IVec S16x3584 1 := broadcastInDim S16x3584 ![] bcast_S_S16x3584 main_c_0
  let main_c_1 : IVec S_ 1 := constantI S_ 1 1#1
  let main_v2 : IVec S16x18944 1 := broadcastInDim S16x18944 ![] bcast_S_S16x18944 main_c_1
  let main_cst : FVec F S_ .f32 := constant S_ .f32 0x00000000#32
  let main_v3 : FVec F S18944 .f32 := broadcastInDim S18944 ![] bcast_S_S18944 main_cst
  let main_v4 : IVec S18944 1 := cmpf .ogt main_arg7 main_v3
  let main_v5 : IVec S1x18944 1 := shapeCast S1x18944 main_v4 shapeCasts_S18944_S1x18944
  (main_v0, main_v1, main_v2, main_v5)
-- ==== Kernel.lean ====
abbrev S12x1024x18944 : Shape := ⟨3, ![12, 1024, 18944]⟩
abbrev S12x1024x3584 : Shape := ⟨3, ![12, 1024, 3584]⟩
abbrev S12x1024x112 : Shape := ⟨3, ![12, 1024, 112]⟩
abbrev S37x3584x512 : Shape := ⟨3, ![37, 3584, 512]⟩
abbrev S3584x16 : Shape := ⟨2, ![3584, 16]⟩
abbrev S16x18944 : Shape := ⟨2, ![16, 18944]⟩
abbrev S18944 : Shape := ⟨1, ![18944]⟩
abbrev S12288x112 : Shape := ⟨2, ![12288, 112]⟩
abbrev S_ : Shape := ⟨0, ![]⟩
abbrev S12288x128 : Shape := ⟨2, ![12288, 128]⟩
abbrev S12288x18944 : Shape := ⟨2, ![12288, 18944]⟩
abbrev S12288x3584 : Shape := ⟨2, ![12288, 3584]⟩
abbrev S16x3584 : Shape := ⟨2, ![16, 3584]⟩
abbrev S1x18944 : Shape := ⟨2, ![1, 18944]⟩
abbrev S1024x512 : Shape := ⟨2, ![1024, 512]⟩
abbrev S1024x3584 : Shape := ⟨2, ![1024, 3584]⟩
abbrev S1024x128 : Shape := ⟨2, ![1024, 128]⟩
abbrev S1x3584x512 : Shape := ⟨3, ![1, 3584, 512]⟩
abbrev S16x512 : Shape := ⟨2, ![16, 512]⟩
abbrev S1x512 : Shape := ⟨2, ![1, 512]⟩
abbrev S16x1024 : Shape := ⟨2, ![16, 1024]⟩
abbrev S64x128 : Shape := ⟨2, ![64, 128]⟩
abbrev S64x128x1 : Shape := ⟨3, ![64, 128, 1]⟩
abbrev S3584x512 : Shape := ⟨2, ![3584, 512]⟩
abbrev S512 : Shape := ⟨1, ![512]⟩
abbrev S1x512x512 : Shape := ⟨3, ![1, 512, 512]⟩
abbrev S512x512 : Shape := ⟨2, ![512, 512]⟩

abbrev nBuf : Space → Nat
  | .hbm => 21
  | .vmem => 26
  | .smem => 0
  | _ => 0

abbrev bufTy : (tb : Table) → Fin (tcTables nBuf tb) → BufTy
  | .hbm, ⟨0, _⟩ => ⟨S12x1024x18944, .bf16⟩
  | .hbm, ⟨1, _⟩ => ⟨S12x1024x3584, .fp8e4m3⟩
  | .hbm, ⟨2, _⟩ => ⟨S12x1024x112, .f32⟩
  | .hbm, ⟨3, _⟩ => ⟨S37x3584x512, .bf16⟩
  | .hbm, ⟨4, _⟩ => ⟨S3584x16, .bf16⟩
  | .hbm, ⟨5, _⟩ => ⟨S16x18944, .bf16⟩
  | .hbm, ⟨6, _⟩ => ⟨S18944, .f32⟩
  | .hbm, ⟨7, _⟩ => ⟨S18944, .f32⟩
  | .hbm, ⟨8, _⟩ => ⟨S12288x112, .f32⟩
  | .hbm, ⟨9, _⟩ => ⟨S_, .i32⟩
  | .hbm, ⟨10, _⟩ => ⟨S_, .f32⟩
  | .hbm, ⟨11, _⟩ => ⟨S12288x128, .f32⟩
  | .hbm, ⟨12, _⟩ => ⟨S12288x18944, .bf16⟩
  | .hbm, ⟨13, _⟩ => ⟨S12288x3584, .fp8e4m3⟩
  | .hbm, ⟨14, _⟩ => ⟨S16x3584, .bf16⟩
  | .hbm, ⟨15, _⟩ => ⟨S1x18944, .f32⟩
  | .hbm, ⟨16, _⟩ => ⟨S1x18944, .f32⟩
  | .hbm, ⟨17, _⟩ => ⟨S12288x3584, .bf16⟩
  | .hbm, ⟨18, _⟩ => ⟨S16x3584, .bf16⟩
  | .hbm, ⟨19, _⟩ => ⟨S16x18944, .bf16⟩
  | .hbm, ⟨20, _⟩ => ⟨S1x18944, .f32⟩
  | .local _ .vmem, ⟨0, _⟩ => ⟨S1024x512, .bf16⟩
  | .local _ .vmem, ⟨1, _⟩ => ⟨S1024x512, .bf16⟩
  | .local _ .vmem, ⟨2, _⟩ => ⟨S1024x3584, .fp8e4m3⟩
  | .local _ .vmem, ⟨3, _⟩ => ⟨S1024x3584, .fp8e4m3⟩
  | .local _ .vmem, ⟨4, _⟩ => ⟨S1024x128, .f32⟩
  | .local _ .vmem, ⟨5, _⟩ => ⟨S1024x128, .f32⟩
  | .local _ .vmem, ⟨6, _⟩ => ⟨S1x3584x512, .bf16⟩
  | .local _ .vmem, ⟨7, _⟩ => ⟨S1x3584x512, .bf16⟩
  | .local _ .vmem, ⟨8, _⟩ => ⟨S16x3584, .bf16⟩
  | .local _ .vmem, ⟨9, _⟩ => ⟨S16x512, .bf16⟩
  | .local _ .vmem, ⟨10, _⟩ => ⟨S16x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1024x3584, .bf16⟩
  | .local _ .vmem, ⟨16, _⟩ => ⟨S1024x3584, .bf16⟩
  | .local _ .vmem, ⟨17, _⟩ => ⟨S16x3584, .bf16⟩
  | .local _ .vmem, ⟨18, _⟩ => ⟨S16x18944, .bf16⟩
  | .local _ .vmem, ⟨19, _⟩ => ⟨S1x18944, .f32⟩
  | .local _ .vmem, ⟨20, _⟩ => ⟨S1024x3584, .bf16⟩
  | .local _ .vmem, ⟨21, _⟩ => ⟨S1024x3584, .f32⟩
  | .local _ .vmem, ⟨22, _⟩ => ⟨S16x1024, .bf16⟩
  | .local _ .vmem, ⟨23, _⟩ => ⟨S16x1024, .f32⟩
  | .local _ .vmem, ⟨24, _⟩ => ⟨S16x3584, .f32⟩
  | .local _ .vmem, ⟨25, _⟩ => ⟨S16x18944, .f32⟩
  | _, _ => ⟨S12x1024x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![12, 37], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

@[reducible] def k0_t1_loop : Scf.Loop 32 :=
  let c0_i32_95 : BitVec 32 := 0#32
  let c16_i32 : BitVec 32 := 16#32
  let v150 : BitVec 32 := Scalar.addi c0_i32_95 c16_i32
  let c1_i32_96 : BitVec 32 := 1#32
  ⟨c0_i32_95, v150, c1_i32_96⟩
def k0_mult2 (k0_t1 : Fin k0_t1_loop.trips) : BitVec 32 :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  v159
def k0_off1 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v161 : Index := Scalar.indexCast v160
  let c0_105 : Index := 0#32
  ![v161.toNat, 0]
def k0_off2 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v174 : Index := Scalar.indexCast v160
  let c0_108 : Index := 0#32
  ![v174.toNat, 0]
def k0_off3 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v194 : Index := Scalar.indexCast v160
  let c128 : Index := 128#32
  ![v194.toNat, 128]
def k0_off4 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v214 : Index := Scalar.indexCast v160
  let c256 : Index := 256#32
  ![v214.toNat, 256]
def k0_off5 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v234 : Index := Scalar.indexCast v160
  let c384 : Index := 384#32
  ![v234.toNat, 384]
def k0_off6 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v254 : Index := Scalar.indexCast v160
  let c512_122 : Index := 512#32
  ![v254.toNat, 512]
def k0_off7 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v274 : Index := Scalar.indexCast v160
  let c640 : Index := 640#32
  ![v274.toNat, 640]
def k0_off8 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v294 : Index := Scalar.indexCast v160
  let c768 : Index := 768#32
  ![v294.toNat, 768]
def k0_off9 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v314 : Index := Scalar.indexCast v160
  let c896 : Index := 896#32
  ![v314.toNat, 896]
def k0_off10 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v334 : Index := Scalar.indexCast v160
  let c1024_136 : Index := 1024#32
  ![v334.toNat, 1024]
def k0_off11 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v354 : Index := Scalar.indexCast v160
  let c1152 : Index := 1152#32
  ![v354.toNat, 1152]
def k0_off12 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v374 : Index := Scalar.indexCast v160
  let c1280 : Index := 1280#32
  ![v374.toNat, 1280]
def k0_off13 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v394 : Index := Scalar.indexCast v160
  let c1408 : Index := 1408#32
  ![v394.toNat, 1408]
def k0_off14 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v414 : Index := Scalar.indexCast v160
  let c1536_150 : Index := 1536#32
  ![v414.toNat, 1536]
def k0_off15 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v434 : Index := Scalar.indexCast v160
  let c1664 : Index := 1664#32
  ![v434.toNat, 1664]
def k0_off16 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v454 : Index := Scalar.indexCast v160
  let c1792 : Index := 1792#32
  ![v454.toNat, 1792]
def k0_off17 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v474 : Index := Scalar.indexCast v160
  let c1920 : Index := 1920#32
  ![v474.toNat, 1920]
def k0_off18 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v494 : Index := Scalar.indexCast v160
  let c2048_164 : Index := 2048#32
  ![v494.toNat, 2048]
def k0_off19 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v514 : Index := Scalar.indexCast v160
  let c2176 : Index := 2176#32
  ![v514.toNat, 2176]
def k0_off20 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v534 : Index := Scalar.indexCast v160
  let c2304 : Index := 2304#32
  ![v534.toNat, 2304]
def k0_off21 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v554 : Index := Scalar.indexCast v160
  let c2432 : Index := 2432#32
  ![v554.toNat, 2432]
def k0_off22 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v574 : Index := Scalar.indexCast v160
  let c2560_177 : Index := 2560#32
  ![v574.toNat, 2560]
def k0_off23 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v594 : Index := Scalar.indexCast v160
  let c2688 : Index := 2688#32
  ![v594.toNat, 2688]
def k0_off24 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v614 : Index := Scalar.indexCast v160
  let c2816 : Index := 2816#32
  ![v614.toNat, 2816]
def k0_off25 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v634 : Index := Scalar.indexCast v160
  let c2944 : Index := 2944#32
  ![v634.toNat, 2944]
def k0_off26 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v654 : Index := Scalar.indexCast v160
  let c3072_190 : Index := 3072#32
  ![v654.toNat, 3072]
def k0_off27 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v674 : Index := Scalar.indexCast v160
  let c3200 : Index := 3200#32
  ![v674.toNat, 3200]
def k0_off28 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v694 : Index := Scalar.indexCast v160
  let c3328 : Index := 3328#32
  ![v694.toNat, 3328]
def k0_off29 (k0_t1 : Fin k0_t1_loop.trips) : Fin 2 → Nat :=
  let c0_i32_95 : BitVec 32 := 0#32
  let c1_i32_96 : BitVec 32 := 1#32
  let arg20 : BitVec 32 := Scf.iv c0_i32_95 c1_i32_96 k0_t1
  let c64_i32 : BitVec 32 := 64#32
  let v159 : BitVec 32 := Scalar.muli arg20 c64_i32
  let v160 : BitVec 32 := v159
  let v714 : Index := Scalar.indexCast v160
  let c3456 : Index := 3456#32
  ![v714.toNat, 3456]
def k0_off30 (i : grid0.Coords) : Fin 2 → Nat :=
  let c0_14 : Index := 0#32
  let arg1 : BitVec 32 := BitVec.ofNat 32 (i 1).val
  let c512_i32 : BitVec 32 := 512#32
  let v0 : BitVec 32 := Scalar.muli arg1 c512_i32
  let v1 : BitVec 32 := v0
  let v25 : Index := Scalar.indexCast v1
  ![0, v25.toNat]
def k0_off31 (i : grid0.Coords) : Fin 2 → Nat :=
  let c0_76 : Index := 0#32
  let arg1 : BitVec 32 := BitVec.ofNat 32 (i 1).val
  let c512_i32 : BitVec 32 := 512#32
  let v0 : BitVec 32 := Scalar.muli arg1 c512_i32
  let v1 : BitVec 32 := v0
  let v100 : Index := Scalar.indexCast v1
  ![0, v100.toNat]
def k0_cond3 (i : grid0.Coords) : BitVec 1 :=
  let arg1 : BitVec 32 := BitVec.ofNat 32 (i 1).val
  let c36_i32 : BitVec 32 := 36#32
  let v109 : BitVec 1 := Scalar.cmpi .eq arg1 c36_i32
  let v110 : BitVec 32 := Scalar.extui v109
  let c0_i32_81 : BitVec 32 := 0#32
  let v111 : BitVec 1 := Scalar.cmpi .ne v110 c0_i32_81
  v111

def k0_cond4 (i : grid0.Coords) : BitVec 1 :=
  let arg0 : BitVec 32 := BitVec.ofNat 32 (i 0).val
  let c11_i32 : BitVec 32 := 11#32
  let v112 : BitVec 1 := Scalar.cmpi .eq arg0 c11_i32
  let arg1 : BitVec 32 := BitVec.ofNat 32 (i 1).val
  let c36_i32_82 : BitVec 32 := 36#32
  let v113 : BitVec 1 := Scalar.cmpi .eq arg1 c36_i32_82
  let v114 : BitVec 1 := Scalar.andi v112 v113
  let v115 : BitVec 32 := Scalar.extui v114
  let c0_i32_83 : BitVec 32 := 0#32
  let v116 : BitVec 1 := Scalar.cmpi .ne v115 c0_i32_83
  v116

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3584x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S16x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S16x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x18944 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x18944 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S12x1024x18944 : Shape := ⟨3, ![12, 1024, 18944]⟩
abbrev S12x1024x3584 : Shape := ⟨3, ![12, 1024, 3584]⟩
abbrev S12x1024x112 : Shape := ⟨3, ![12, 1024, 112]⟩
abbrev S37x3584x512 : Shape := ⟨3, ![37, 3584, 512]⟩
abbrev S3584x16 : Shape := ⟨2, ![3584, 16]⟩
abbrev S16x18944 : Shape := ⟨2, ![16, 18944]⟩
abbrev S18944 : Shape := ⟨1, ![18944]⟩
abbrev S3584x37x512 : Shape := ⟨3, ![3584, 37, 512]⟩
abbrev S3584x18944 : Shape := ⟨2, ![3584, 18944]⟩
abbrev S1792x18944 : Shape := ⟨2, ![1792, 18944]⟩
abbrev S1x1x18944 : Shape := ⟨3, ![1, 1, 18944]⟩
abbrev S12x1024x1792 : Shape := ⟨3, ![12, 1024, 1792]⟩
abbrev S12x1024x1792x1 : Shape := ⟨4, ![12, 1024, 1792, 1]⟩
abbrev S12x1024x1792x2 : Shape := ⟨4, ![12, 1024, 1792, 2]⟩
abbrev S12x1024x112x32 : Shape := ⟨4, ![12, 1024, 112, 32]⟩
abbrev S12x1024x112x1 : Shape := ⟨4, ![12, 1024, 112, 1]⟩
abbrev S_ : Shape := ⟨0, ![]⟩
abbrev S12x1024x16 : Shape := ⟨3, ![12, 1024, 16]⟩
abbrev S12288x3584 : Shape := ⟨2, ![12288, 3584]⟩
abbrev S16x3584 : Shape := ⟨2, ![16, 3584]⟩
abbrev S1x18944 : Shape := ⟨2, ![1, 18944]⟩

abbrev nBuf : Space → Nat
  | .hbm => 60
  | .vmem => 2
  | .smem => 0
  | _ => 0

abbrev bufTy : (tb : Table) → Fin (tcTables nBuf tb) → BufTy
  | .hbm, ⟨0, _⟩ => ⟨S12x1024x18944, .bf16⟩
  | .hbm, ⟨1, _⟩ => ⟨S12x1024x3584, .fp8e4m3⟩
  | .hbm, ⟨2, _⟩ => ⟨S12x1024x112, .f32⟩
  | .hbm, ⟨3, _⟩ => ⟨S37x3584x512, .bf16⟩
  | .hbm, ⟨4, _⟩ => ⟨S3584x16, .bf16⟩
  | .hbm, ⟨5, _⟩ => ⟨S16x18944, .bf16⟩
  | .hbm, ⟨6, _⟩ => ⟨S18944, .f32⟩
  | .hbm, ⟨7, _⟩ => ⟨S18944, .f32⟩
  | .hbm, ⟨8, _⟩ => ⟨S12x1024x3584, .bf16⟩
  | .hbm, ⟨9, _⟩ => ⟨S3584x37x512, .bf16⟩
  | .hbm, ⟨10, _⟩ => ⟨S3584x18944, .bf16⟩
  | .hbm, ⟨11, _⟩ => ⟨S1792x18944, .bf16⟩
  | .hbm, ⟨12, _⟩ => ⟨S1792x18944, .bf16⟩
  | .hbm, ⟨13, _⟩ => ⟨S18944, .f32⟩
  | .hbm, ⟨14, _⟩ => ⟨S12x1024x18944, .f32⟩
  | .hbm, ⟨15, _⟩ => ⟨S1x1x18944, .f32⟩
  | .hbm, ⟨16, _⟩ => ⟨S12x1024x18944, .f32⟩
  | .hbm, ⟨17, _⟩ => ⟨S12x1024x18944, .f32⟩
  | .hbm, ⟨18, _⟩ => ⟨S12x1024x18944, .bf16⟩
  | .hbm, ⟨19, _⟩ => ⟨S12x1024x1792, .f32⟩
  | .hbm, ⟨20, _⟩ => ⟨S12x1024x1792, .f32⟩
  | .hbm, ⟨21, _⟩ => ⟨S12x1024x1792x1, .f32⟩
  | .hbm, ⟨22, _⟩ => ⟨S12x1024x1792x1, .f32⟩
  | .hbm, ⟨23, _⟩ => ⟨S12x1024x1792x2, .f32⟩
  | .hbm, ⟨24, _⟩ => ⟨S12x1024x3584, .f32⟩
  | .hbm, ⟨25, _⟩ => ⟨S12x1024x3584, .bf16⟩
  | .hbm, ⟨26, _⟩ => ⟨S12x1024x112x32, .bf16⟩
  | .hbm, ⟨27, _⟩ => ⟨S12x1024x112, .bf16⟩
  | .hbm, ⟨28, _⟩ => ⟨S12x1024x112x1, .bf16⟩
  | .hbm, ⟨29, _⟩ => ⟨S12x1024x112x32, .bf16⟩
  | .hbm, ⟨30, _⟩ => ⟨S12x1024x112x32, .bf16⟩
  | .hbm, ⟨31, _⟩ => ⟨S12x1024x3584, .bf16⟩
  | .hbm, ⟨32, _⟩ => ⟨S12x1024x1792, .bf16⟩
  | .hbm, ⟨33, _⟩ => ⟨S12x1024x18944, .f32⟩
  | .hbm, ⟨34, _⟩ => ⟨S12x1024x1792, .bf16⟩
  | .hbm, ⟨35, _⟩ => ⟨S12x1024x18944, .f32⟩
  | .hbm, ⟨36, _⟩ => ⟨S12x1024x18944, .f32⟩
  | .hbm, ⟨37, _⟩ => ⟨S12x1024x18944, .f32⟩
  | .hbm, ⟨38, _⟩ => ⟨S1x1x18944, .f32⟩
  | .hbm, ⟨39, _⟩ => ⟨S12x1024x18944, .f32⟩
  | .hbm, ⟨40, _⟩ => ⟨S12x1024x18944, .f32⟩
  | .hbm, ⟨41, _⟩ => ⟨S_, .f32⟩
  | .hbm, ⟨42, _⟩ => ⟨S18944, .f32⟩
  | .hbm, ⟨43, _⟩ => ⟨S12x1024x16, .f32⟩
  | .hbm, ⟨44, _⟩ => ⟨S12x1024x16, .bf16⟩
  | .hbm, ⟨45, _⟩ => ⟨S3584x16, .f32⟩
  | .hbm, ⟨46, _⟩ => ⟨S_, .f32⟩
  | .hbm, ⟨47, _⟩ => ⟨S3584x16, .f32⟩
  | .hbm, ⟨48, _⟩ => ⟨S3584x16, .f32⟩
  | .hbm, ⟨49, _⟩ => ⟨S3584x16, .bf16⟩
  | .hbm, ⟨50, _⟩ => ⟨S12x1024x16, .f32⟩
  | .hbm, ⟨51, _⟩ => ⟨S12x1024x16, .bf16⟩
  | .hbm, ⟨52, _⟩ => ⟨S16x18944, .f32⟩
  | .hbm, ⟨53, _⟩ => ⟨S_, .f32⟩
  | .hbm, ⟨54, _⟩ => ⟨S16x18944, .f32⟩
  | .hbm, ⟨55, _⟩ => ⟨S16x18944, .f32⟩
  | .hbm, ⟨56, _⟩ => ⟨S16x18944, .bf16⟩
  | .hbm, ⟨57, _⟩ => ⟨S12288x3584, .bf16⟩
  | .hbm, ⟨58, _⟩ => ⟨S16x3584, .bf16⟩
  | .hbm, ⟨59, _⟩ => ⟨S1x18944, .f32⟩
  | .local _ .vmem, ⟨0, _⟩ => ⟨S12x1024x3584, .fp8e4m3⟩
  | .local _ .vmem, ⟨1, _⟩ => ⟨S12x1024x3584, .bf16⟩
  | _, _ => ⟨S12x1024x18944, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_0 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_1 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12x1024x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BuildV.lean ====
abbrev S1792x18944 : Shape := ⟨2, ![1792, 18944]⟩
abbrev S28x18944 : Shape := ⟨2, ![28, 18944]⟩
abbrev S3584x16 : Shape := ⟨2, ![3584, 16]⟩
abbrev S16x18944 : Shape := ⟨2, ![16, 18944]⟩
abbrev S28x64x18944 : Shape := ⟨3, ![28, 64, 18944]⟩
abbrev S1792x16 : Shape := ⟨2, ![1792, 16]⟩
abbrev S37x3584x512 : Shape := ⟨3, ![37, 3584, 512]⟩
abbrev S28x64x512 : Shape := ⟨3, ![28, 64, 512]⟩
abbrev S28x512 : Shape := ⟨2, ![28, 512]⟩
abbrev S16x512 : Shape := ⟨2, ![16, 512]⟩
abbrev S1x3584x512 : Shape := ⟨3, ![1, 3584, 512]⟩
abbrev S1x64x512 : Shape := ⟨3, ![1, 64, 512]⟩
abbrev S64x512 : Shape := ⟨2, ![64, 512]⟩
abbrev S1x512 : Shape := ⟨2, ![1, 512]⟩
abbrev S64x16 : Shape := ⟨2, ![64, 16]⟩
abbrev S128x512 : Shape := ⟨2, ![128, 512]⟩
abbrev S1x128x512 : Shape := ⟨3, ![1, 128, 512]⟩

abbrev nBuf : Space → Nat
  | .hbm => 8
  | .vmem => 11
  | .smem => 0
  | _ => 0

abbrev bufTy : (tb : Table) → Fin (tcTables nBuf tb) → BufTy
  | .hbm, ⟨0, _⟩ => ⟨S1792x18944, .i8⟩
  | .hbm, ⟨1, _⟩ => ⟨S28x18944, .bf16⟩
  | .hbm, ⟨2, _⟩ => ⟨S3584x16, .bf16⟩
  | .hbm, ⟨3, _⟩ => ⟨S16x18944, .bf16⟩
  | .hbm, ⟨4, _⟩ => ⟨S28x64x18944, .i8⟩
  | .hbm, ⟨5, _⟩ => ⟨S1792x16, .bf16⟩
  | .hbm, ⟨6, _⟩ => ⟨S1792x16, .bf16⟩
  | .hbm, ⟨7, _⟩ => ⟨S37x3584x512, .bf16⟩
  | .local _ .vmem, ⟨0, _⟩ => ⟨S28x64x512, .i8⟩
  | .local _ .vmem, ⟨1, _⟩ => ⟨S28x64x512, .i8⟩
  | .local _ .vmem, ⟨2, _⟩ => ⟨S28x512, .bf16⟩
  | .local _ .vmem, ⟨3, _⟩ => ⟨S28x512, .bf16⟩
  | .local _ .vmem, ⟨4, _⟩ => ⟨S1792x16, .bf16⟩
  | .local _ .vmem, ⟨5, _⟩ => ⟨S1792x16, .bf16⟩
  | .local _ .vmem, ⟨6, _⟩ => ⟨S16x512, .bf16⟩
  | .local _ .vmem, ⟨7, _⟩ => ⟨S16x512, .bf16⟩
  | .local _ .vmem, ⟨8, _⟩ => ⟨S1x3584x512, .bf16⟩
  | .local _ .vmem, ⟨9, _⟩ => ⟨S1x3584x512, .bf16⟩
  | .local _ .vmem, ⟨10, _⟩ => ⟨S28x512, .f32⟩
  | _, _ => ⟨S1792x18944, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![37], ![false]⟩

@[reducible] def k0_t1_loop : Scf.Loop 32 :=
  let c0_i32 : BitVec 32 := 0#32
  let c28_i32 : BitVec 32 := 28#32
  let v6 : BitVec 32 := Scalar.addi c0_i32 c28_i32
  let c1_i32 : BitVec 32 := 1#32
  ⟨c0_i32, v6, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v7 : Index := Scalar.indexCast arg8
  let c0_6 : Index := 0#32
  let c0_7 : Index := 0#32
  ![v7.toNat, 0, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let v11 : Index := Scalar.indexCast arg8
  let c0_8 : Index := 0#32
  ![v11.toNat, 0]
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v21 : BitVec 32 := Scalar.muli arg8 c64_i32
  v21
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v21 : BitVec 32 := Scalar.muli arg8 c64_i32
  let v22 : BitVec 32 := v21
  let v23 : Index := Scalar.indexCast v22
  let c0_11 : Index := 0#32
  ![v23.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32_14 : BitVec 32 := 64#32
  let v39 : BitVec 32 := Scalar.muli arg8 c64_i32_14
  v39
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v51 : BitVec 32 := Scalar.muli arg8 c128_i32
  v51
def k0_off4 (k0_t1 : Fin k0_t1_loop.trips) : Fin 3 → Nat :=
  let c0_18 : Index := 0#32
  let c0_i32 : BitVec 32 := 0#32
  let c1_i32 : BitVec 32 := 1#32
  let arg8 : BitVec 32 := Scf.iv c0_i32 c1_i32 k0_t1
  let c128_i32 : BitVec 32 := 128#32
  let v51 : BitVec 32 := Scalar.muli arg8 c128_i32
  let v52 : BitVec 32 := v51
  let v53 : Index := Scalar.indexCast v52
  let c0_19 : Index := 0#32
  ![0, v53.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S28x64x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S28x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3584x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BuildVIdeal.lean ====
variable {F : FTy → Type} [FloatOps F]
-- ==== BuildVRefIdeal.lean ====
abbrev S1792x18944 : Shape := ⟨2, ![1792, 18944]⟩
abbrev S28x18944 : Shape := ⟨2, ![28, 18944]⟩
abbrev S3584x16 : Shape := ⟨2, ![3584, 16]⟩
abbrev S16x18944 : Shape := ⟨2, ![16, 18944]⟩
abbrev S_ : Shape := ⟨0, ![]⟩
abbrev S28x64x18944 : Shape := ⟨3, ![28, 64, 18944]⟩
abbrev S28x1x18944 : Shape := ⟨3, ![28, 1, 18944]⟩
abbrev S1792x16 : Shape := ⟨2, ![1792, 16]⟩
abbrev S1792x1x18944 : Shape := ⟨3, ![1792, 1, 18944]⟩
abbrev S1792x2x18944 : Shape := ⟨3, ![1792, 2, 18944]⟩
abbrev S3584x18944 : Shape := ⟨2, ![3584, 18944]⟩
abbrev S3584x37x512 : Shape := ⟨3, ![3584, 37, 512]⟩
abbrev S37x3584x512 : Shape := ⟨3, ![37, 3584, 512]⟩

abbrev nBuf : Space → Nat
  | .hbm => 60
  | .vmem => 0
  | .smem => 0
  | _ => 0

abbrev bufTy : (tb : Table) → Fin (tcTables nBuf tb) → BufTy
  | .hbm, ⟨0, _⟩ => ⟨S1792x18944, .i8⟩
  | .hbm, ⟨1, _⟩ => ⟨S28x18944, .bf16⟩
  | .hbm, ⟨2, _⟩ => ⟨S3584x16, .bf16⟩
  | .hbm, ⟨3, _⟩ => ⟨S16x18944, .bf16⟩
  | .hbm, ⟨4, _⟩ => ⟨S1792x18944, .i32⟩
  | .hbm, ⟨5, _⟩ => ⟨S_, .i32⟩
  | .hbm, ⟨6, _⟩ => ⟨S1792x18944, .i32⟩
  | .hbm, ⟨7, _⟩ => ⟨S1792x18944, .i32⟩
  | .hbm, ⟨8, _⟩ => ⟨S_, .i32⟩
  | .hbm, ⟨9, _⟩ => ⟨S1792x18944, .i32⟩
  | .hbm, ⟨10, _⟩ => ⟨S1792x18944, .i32⟩
  | .hbm, ⟨11, _⟩ => ⟨S_, .i32⟩
  | .hbm, ⟨12, _⟩ => ⟨S1792x18944, .i32⟩
  | .hbm, ⟨13, _⟩ => ⟨S1792x18944, .i32⟩
  | .hbm, ⟨14, _⟩ => ⟨S1792x18944, .bf16⟩
  | .hbm, ⟨15, _⟩ => ⟨S28x64x18944, .bf16⟩
  | .hbm, ⟨16, _⟩ => ⟨S28x1x18944, .bf16⟩
  | .hbm, ⟨17, _⟩ => ⟨S28x64x18944, .bf16⟩
  | .hbm, ⟨18, _⟩ => ⟨S28x64x18944, .bf16⟩
  | .hbm, ⟨19, _⟩ => ⟨S1792x18944, .bf16⟩
  | .hbm, ⟨20, _⟩ => ⟨S_, .i32⟩
  | .hbm, ⟨21, _⟩ => ⟨S1792x18944, .i32⟩
  | .hbm, ⟨22, _⟩ => ⟨S1792x18944, .i32⟩
  | .hbm, ⟨23, _⟩ => ⟨S_, .i32⟩
  | .hbm, ⟨24, _⟩ => ⟨S1792x18944, .i32⟩
  | .hbm, ⟨25, _⟩ => ⟨S1792x18944, .i32⟩
  | .hbm, ⟨26, _⟩ => ⟨S_, .i32⟩
  | .hbm, ⟨27, _⟩ => ⟨S1792x18944, .i32⟩
  | .hbm, ⟨28, _⟩ => ⟨S1792x18944, .i32⟩
  | .hbm, ⟨29, _⟩ => ⟨S_, .i32⟩
  | .hbm, ⟨30, _⟩ => ⟨S1792x18944, .i32⟩
  | .hbm, ⟨31, _⟩ => ⟨S1792x18944, .i32⟩
  | .hbm, ⟨32, _⟩ => ⟨S1792x18944, .bf16⟩
  | .hbm, ⟨33, _⟩ => ⟨S28x64x18944, .bf16⟩
  | .hbm, ⟨34, _⟩ => ⟨S28x1x18944, .bf16⟩
  | .hbm, ⟨35, _⟩ => ⟨S28x64x18944, .bf16⟩
  | .hbm, ⟨36, _⟩ => ⟨S28x64x18944, .bf16⟩
  | .hbm, ⟨37, _⟩ => ⟨S1792x18944, .bf16⟩
  | .hbm, ⟨38, _⟩ => ⟨S1792x16, .bf16⟩
  | .hbm, ⟨39, _⟩ => ⟨S1792x18944, .f32⟩
  | .hbm, ⟨40, _⟩ => ⟨S1792x18944, .f32⟩
  | .hbm, ⟨41, _⟩ => ⟨S_, .f32⟩
  | .hbm, ⟨42, _⟩ => ⟨S1792x18944, .f32⟩
  | .hbm, ⟨43, _⟩ => ⟨S1792x18944, .f32⟩
  | .hbm, ⟨44, _⟩ => ⟨S1792x18944, .f32⟩
  | .hbm, ⟨45, _⟩ => ⟨S1792x18944, .bf16⟩
  | .hbm, ⟨46, _⟩ => ⟨S1792x16, .bf16⟩
  | .hbm, ⟨47, _⟩ => ⟨S1792x18944, .f32⟩
  | .hbm, ⟨48, _⟩ => ⟨S1792x18944, .f32⟩
  | .hbm, ⟨49, _⟩ => ⟨S_, .f32⟩
  | .hbm, ⟨50, _⟩ => ⟨S1792x18944, .f32⟩
  | .hbm, ⟨51, _⟩ => ⟨S1792x18944, .f32⟩
  | .hbm, ⟨52, _⟩ => ⟨S1792x18944, .f32⟩
  | .hbm, ⟨53, _⟩ => ⟨S1792x18944, .bf16⟩
  | .hbm, ⟨54, _⟩ => ⟨S1792x1x18944, .bf16⟩
  | .hbm, ⟨55, _⟩ => ⟨S1792x1x18944, .bf16⟩
  | .hbm, ⟨56, _⟩ => ⟨S1792x2x18944, .bf16⟩
  | .hbm, ⟨57, _⟩ => ⟨S3584x18944, .bf16⟩
  | .hbm, ⟨58, _⟩ => ⟨S3584x37x512, .bf16⟩
  | .hbm, ⟨59, _⟩ => ⟨S37x3584x512, .bf16⟩
  | _, _ => ⟨S1792x18944, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Proof.KPay.lean ====
/-
  The main kernel's stored values read at an index, over the extended reals: what each store of one grid step writes,
  as a formula in the values the step loaded.
-/
module

public import proofs.«01_k».proof.Proof.Gen.KernelIdeal.Skeleton
public import Idealize.ShloMosaic.Lib.Pointwise

@[expose] public section

set_option maxRecDepth 16384

noncomputable section

namespace Cert.KernelIdeal.Hand

open Idealize.ShloMosaic Idealize.ShloMosaic.TcCoe
open Idealize.ShloMosaic.Pointwise
open Cert.KernelIdeal Cert.KernelIdeal.Gen
open scoped BigOperators

/-- The gradient scaled by the column's magnitude over its norm. -/
theorem pay60_apply (x0 : Vec Ideal S1024x512 .bf16) (x6 x7 : Vec Ideal S1x512 .f32) (r : Fin 1024) (o : Fin 512) :
    k0_pay60 (F := Ideal) x0 x6 x7 (ix2 r o) = x0 (ix2 r o) * Ideal.div (x6 (ix2 0 o)) (x7 (ix2 0 o)) := by
  pointwise [k0_pay60, k0_pay59]

theorem pay58_apply (a : FVec Ideal S16x3584 .bf16) (xh : Vec Ideal S1024x3584 .bf16) (r : Fin 16) (o : Fin 1024) :
    k0_pay58 (F := Ideal) a xh (ix2 r o) = ∑ k : Fin 3584, a (ix2 r k) * xh (ix2 o k) := by
  pointwise [k0_pay58]

theorem pay62_apply (x0 : Vec Ideal S1024x512 .bf16) (xh : Vec Ideal S1024x3584 .bf16) (v : Vec Ideal S1x3584x512 .bf16) (x7 : Vec Ideal S1x512 .f32) (o : Fin 512) :
    k0_pay62 (F := Ideal) x0 xh v x7 (ix2 0 o) = Ideal.div (∑ r : Fin 1024, x0 (ix2 r o) * ∑ k : Fin 3584, xh (ix2 r k) * v (ix3 0 k o)) (x7 (ix2 0 o)) := by
  pointwise [k0_pay62, k0_pay59]

theorem pay64_apply (p : FVec Ideal S1024x512 .bf16) (a : Vec Ideal S1024x512 .f32) (v : Vec Ideal S1x512x512 .bf16) (r : Fin 1024) (o : Fin 512) :
    k0_pay64 (F := Ideal) p a v (ix2 r o) = a (ix2 r o) + ∑ k : Fin 512, p (ix2 r k) * v (ix3 0 o k) := by
  pointwise [k0_pay64]

theorem pay2_apply (p : FVec Ideal S1024x512 .bf16) (a : Vec Ideal S16x1024 .f32) (b : Vec Ideal S16x512 .bf16) (k : Fin 16) (r : Fin 1024) :
    k0_pay2 (F := Ideal) p a b (ix2 k r) = a (ix2 k r) + ∑ o : Fin 512, b (ix2 k o) * p (ix2 r o) := by
  pointwise [k0_pay2]

theorem pay3_apply (p : FVec Ideal S1024x512 .bf16) (a : Vec Ideal S16x512 .f32) (b : Vec Ideal S16x1024 .bf16) (k : Fin 16) (o : Fin 512) :
    k0_pay3 (F := Ideal) p a b (ix2 k o) = a (ix2 k o) + ∑ r : Fin 1024, b (ix2 k r) * p (ix2 r o) := by
  pointwise [k0_pay3]

theorem pay5_apply (a : Vec Ideal S16x3584 .f32) (h : Vec Ideal S16x1024 .f32) (xh : Vec Ideal S1024x3584 .bf16) (k : Fin 16) (o : Fin 3584) :
    k0_pay5 (F := Ideal) a h xh (ix2 k o) = a (ix2 k o) + ∑ r : Fin 1024, h (ix2 k r) * xh (ix2 r o) := by
  pointwise [k0_pay5]

/-- The half every low-rank gradient is scaled by, as the printed word. -/
abbrev half : EReal := Ideal.ofBits .f32 0x3F000000#32

theorem pay6_apply (a : Vec Ideal S16x3584 .f32) (k : Fin 16) (o : Fin 3584) :
    k0_pay6 (F := Ideal) a (ix2 k o) = half * a (ix2 k o) := by
  pointwise [k0_pay6]

theorem pay7_apply (a : Vec Ideal S16x18944 .f32) (k : Fin 16) (o : Fin 18944) :
    k0_pay7 (F := Ideal) a (ix2 k o) = half * a (ix2 k o) := by
  pointwise [k0_pay7]

end Cert.KernelIdeal.Hand
-- ==== Proof.KDeq.lean ====
/-
  The dequantisation loop of the main kernel: the 28 column groups one trip stores are one formula, code times the
  scale of the group of 32 columns the code lies in, and the 16 trips together fill the whole token tile.
-/
module

public import proofs.«01_k».proof.Proof.KPay
public import proofs.«01_k».proof.Proof.Gen.KernelIdeal.Loops
public import Idealize.ShloMosaic.Lib.Pipeline.Value
public import Idealize.ShloMosaic.Lib.Pipeline.ReadBack
public import Idealize.ShloMosaic.Lib.Tactic

@[expose] public section

set_option maxRecDepth 16384

noncomputable section

namespace Cert.KernelIdeal.Hand

open Idealize.ShloMosaic Idealize.ShloMosaic.TcCoe Idealize.SL.Sem Idealize.ShloMosaic.Tactic
open Idealize.ShloMosaic.Pointwise
open Cert.KernelIdeal Cert.KernelIdeal.Gen
open scoped BigOperators

/-- The scale column that lane `o` of column group `c` uses. -/
def grp (c : Nat) (hc : c < 28) (o : Fin 128) : Fin 128 := ⟨o.val / 32 + 4 * c, by omega⟩

/-- The kernel's lane number divided by 32, rounded down. -/
theorem lane_div (r : Fin 64) (o : Fin 128) : k0_pay52 (ix2 r o) = BitVec.ofNat 32 (o.val / 32) := by
  have h : k0_pay52 (ix2 r o) = k0_pay52 (ix2 0 o) := by pointwise [k0_pay52]
  rw [h]
  revert o
  pointwise [k0_pay52]
  decide +kernel

theorem lane_nat : ∀ (c : Fin 28) (o : Fin 128),
    (Scalar.select (IntOp.cmpi .slt (IntOp.addi (BitVec.ofNat 32 (o.val / 32)) (BitVec.ofNat 32 (4 * c.val))) 0#32)
      (IntOp.addi (IntOp.addi (BitVec.ofNat 32 (o.val / 32)) (BitVec.ofNat 32 (4 * c.val))) 128#32)
      (IntOp.addi (BitVec.ofNat 32 (o.val / 32)) (BitVec.ofNat 32 (4 * c.val)))).toNat % 128 = o.val / 32 + 4 * c.val := by
  decide +kernel

theorem lane_grp (c : Nat) (hc : c < 28) (o : Fin 128) (k : BitVec 32) (hk : k = BitVec.ofNat 32 (4 * c)) (r : Fin 64) (h) :
    (⟨(Scalar.select (IntOp.cmpi .slt (IntOp.addi (k0_pay52 (ix2 r o)) k) 0#32)
      (IntOp.addi (IntOp.addi (k0_pay52 (ix2 r o)) k) 128#32) (IntOp.addi (k0_pay52 (ix2 r o)) k)).toNat % 128, h⟩ : Fin 128) = grp c hc o := by
  subst hk
  apply Fin.ext
  simp only [lane_div]
  exact lane_nat ⟨c, hc⟩ o

theorem deq2 (s : Vec Ideal S64x128 .f32) (C : Vec Ideal S64x128 .fp8e4m3) (r : Fin 64) (o : Fin 128) :
    k0_pay9 (F := Ideal) k0_pay52 s C (ix2 r o) = C (ix2 r o) * s (ix2 r (grp 0 (by omega) o)) := by
  pointwise [k0_pay9, k0_pay8]
  exact congrArg (fun q => C (ix2 r o) * s (ix2 r q)) (lane_grp 0 (by omega) o 0#32 rfl r _)

theorem deq3 (s : Vec Ideal S64x128 .f32) (C : Vec Ideal S64x128 .fp8e4m3) (r : Fin 64) (o : Fin 128) :
    k0_pay10 (F := Ideal) k0_pay52 s C (ix2 r o) = C (ix2 r o) * s (ix2 r (grp 1 (by omega) o)) := by
  pointwise [k0_pay10, k0_pay8]
  exact congrArg (fun q => C (ix2 r o) * s (ix2 r q)) (lane_grp 1 (by omega) o 4#32 rfl r _)

theorem deq4 (s : Vec Ideal S64x128 .f32) (C : Vec Ideal S64x128 .fp8e4m3) (r : Fin 64) (o : Fin 128) :
    k0_pay11 (F := Ideal) k0_pay52 (k0_pay8 s) C (ix2 r o) = C (ix2 r o) * s (ix2 r (grp 2 (by omega) o)) := by
  pointwise [k0_pay11, k0_pay8]
  exact congrArg (fun q => C (ix2 r o) * s (ix2 r q)) (lane_grp 2 (by omega) o 8#32 rfl r _)

theorem deq5 (s : Vec Ideal S64x128 .f32) (C : Vec Ideal S64x128 .fp8e4m3) (r : Fin 64) (o : Fin 128) :
    k0_pay12 (F := Ideal) k0_pay52 (k0_pay8 s) C (ix2 r o) = C (ix2 r o) * s (ix2 r (grp 3 (by omega) o)) := by
  pointwise [k0_pay12, k0_pay8]
  exact congrArg (fun q => C (ix2 r o) * s (ix2 r q)) (lane_grp 3 (by omega) o 12#32 rfl r _)

theorem deq6 (s : Vec Ideal S64x128 .f32) (C : Vec Ideal S64x128 .fp8e4m3) (r : Fin 64) (o : Fin 128) :
    k0_pay16 (F := Ideal) (k0_pay8 s) (k0_pay13 k0_pay52) (k0_pay14 k0_pay52) k0_pay15 C (ix2 r o) = C (ix2 r o) * s (ix2 r (grp 4 (by omega) o)) := by
  pointwise [k0_pay16, k0_pay13, k0_pay14, k0_pay15, k0_pay8]
  exact congrArg (fun q => C (ix2 r o) * s (ix2 r q)) (lane_grp 4 (by omega) o 16#32 rfl r _)

theorem deq7 (s : Vec Ideal S64x128 .f32) (C : Vec Ideal S64x128 .fp8e4m3) (r : Fin 64) (o : Fin 128) :
    k0_pay17 (F := Ideal) k0_pay52 (k0_pay8 s) C (ix2 r o) = C (ix2 r o) * s (ix2 r (grp 5 (by omega) o)) := by
  pointwise [k0_pay17, k0_pay8]
  exact congrArg (fun q => C (ix2 r o) * s (ix2 r q)) (lane_grp 5 (by omega) o 20#32 rfl r _)

theorem deq8 (s : Vec Ideal S64x128 .f32) (C : Vec Ideal S64x128 .fp8e4m3) (r : Fin 64) (o : Fin 128) :
    k0_pay19 (F := Ideal) (k0_pay18 k0_pay52 (k0_pay8 s)) C (ix2 r o) = C (ix2 r o) * s (ix2 r (grp 6 (by omega) o)) := by
  pointwise [k0_pay19, k0_pay18, k0_pay8]
  exact congrArg (fun q => C (ix2 r o) * s (ix2 r q)) (lane_grp 6 (by omega) o 24#32 rfl r _)

theorem deq9 (s : Vec Ideal S64x128 .f32) (C : Vec Ideal S64x128 .fp8e4m3) (r : Fin 64) (o : Fin 128) :
    k0_pay20 (F := Ideal) k0_pay52 (k0_pay8 s) C (ix2 r o) = C (ix2 r o) * s (ix2 r (grp 7 (by omega) o)) := by
  pointwise [k0_pay20, k0_pay8]
  exact congrArg (fun q => C (ix2 r o) * s (ix2 r q)) (lane_grp 7 (by omega) o 28#32 rfl r _)

theorem deq10 (s : Vec Ideal S64x128 .f32) (C : Vec Ideal S64x128 .fp8e4m3) (r : Fin 64) (o : Fin 128) :
    k0_pay22 (F := Ideal) (k0_pay21 k0_pay52 (k0_pay8 s) C) (ix2 r o) = C (ix2 r o) * s (ix2 r (grp 8 (by omega) o)) := by
  pointwise [k0_pay22, k0_pay21, k0_pay8]
  exact congrArg (fun q => C (ix2 r o) * s (ix2 r q)) (lane_grp 8 (by omega) o 32#32 rfl r _)

theorem deq11 (s : Vec Ideal S64x128 .f32) (C : Vec Ideal S64x128 .fp8e4m3) (r : Fin 64) (o : Fin 128) :
    k0_pay23 (F := Ideal) k0_pay52 (k0_pay8 s) C (ix2 r o) = C (ix2 r o) * s (ix2 r (grp 9 (by omega) o)) := by
  pointwise [k0_pay23, k0_pay8]
  exact congrArg (fun q => C (ix2 r o) * s (ix2 r q)) (lane_grp 9 (by omega) o 36#32 rfl r _)

theorem deq12 (s : Vec Ideal S64x128 .f32) (C : Vec Ideal S64x128 .fp8e4m3) (r : Fin 64) (o : Fin 128) :
    k0_pay24 (F := Ideal) k0_pay52 (k0_pay8 s) C (ix2 r o) = C (ix2 r o) * s (ix2 r (grp 10 (by omega) o)) := by
  pointwise [k0_pay24, k0_pay8]
  exact congrArg (fun q => C (ix2 r o) * s (ix2 r q)) (lane_grp 10 (by omega) o 40#32 rfl r _)

theorem deq13 (s : Vec Ideal S64x128 .f32) (C : Vec Ideal S64x128 .fp8e4m3) (r : Fin 64) (o : Fin 128) :
    k0_pay27 (F := Ideal) (k0_pay8 s) (k0_pay25 k0_pay52) (k0_pay26 k0_pay52) C (ix2 r o) = C (ix2 r o) * s (ix2 r (grp 11 (by omega) o)) := by
  pointwise [k0_pay27, k0_pay25, k0_pay26, k0_pay8]
  exact congrArg (fun q => C (ix2 r o) * s (ix2 r q)) (lane_grp 11 (by omega) o 44#32 rfl r _)

theorem deq14 (s : Vec Ideal S64x128 .f32) (C : Vec Ideal S64x128 .fp8e4m3) (r : Fin 64) (o : Fin 128) :
    k0_pay28 (F := Ideal) k0_pay52 (k0_pay8 s) C (ix2 r o) = C (ix2 r o) * s (ix2 r (grp 12 (by omega) o)) := by
  pointwise [k0_pay28, k0_pay8]
  exact congrArg (fun q => C (ix2 r o) * s (ix2 r q)) (lane_grp 12 (by omega) o 48#32 rfl r _)

theorem deq15 (s : Vec Ideal S64x128 .f32) (C : Vec Ideal S64x128 .fp8e4m3) (r : Fin 64) (o : Fin 128) :
    k0_pay30 (F := Ideal) (k0_pay29 k0_pay52 (k0_pay8 s)) C (ix2 r o) = C (ix2 r o) * s (ix2 r (grp 13 (by omega) o)) := by
  pointwise [k0_pay30, k0_pay29, k0_pay8]
  exact congrArg (fun q => C (ix2 r o) * s (ix2 r q)) (lane_grp 13 (by omega) o 52#32 rfl r _)

theorem deq16 (s : Vec Ideal S64x128 .f32) (C : Vec Ideal S64x128 .fp8e4m3) (r : Fin 64) (o : Fin 128) :
    k0_pay31 (F := Ideal) k0_pay52 (k0_pay8 s) C (ix2 r o) = C (ix2 r o) * s (ix2 r (grp 14 (by omega) o)) := by
  pointwise [k0_pay31, k0_pay8]
  exact congrArg (fun q => C (ix2 r o) * s (ix2 r q)) (lane_grp 14 (by omega) o 56#32 rfl r _)

theorem deq17 (s : Vec Ideal S64x128 .f32) (C : Vec Ideal S64x128 .fp8e4m3) (r : Fin 64) (o : Fin 128) :
    k0_pay33 (F := Ideal) (k0_pay32 k0_pay52 (k0_pay8 s) C) (ix2 r o) = C (ix2 r o) * s (ix2 r (grp 15 (by omega) o)) := by
  pointwise [k0_pay33, k0_pay32, k0_pay8]
  exact congrArg (fun q => C (ix2 r o) * s (ix2 r q)) (lane_grp 15 (by omega) o 60#32 rfl r _)

theorem deq18 (s : Vec Ideal S64x128 .f32) (C : Vec Ideal S64x128 .fp8e4m3) (r : Fin 64) (o : Fin 128) :
    k0_pay34 (F := Ideal) k0_pay52 (k0_pay8 s) C (ix2 r o) = C (ix2 r o) * s (ix2 r (grp 16 (by omega) o)) := by
  pointwise [k0_pay34, k0_pay8]
  exact congrArg (fun q => C (ix2 r o) * s (ix2 r q)) (lane_grp 16 (by omega) o 64#32 rfl r _)

theorem deq19 (s : Vec Ideal S64x128 .f32) (C : Vec Ideal S64x128 .fp8e4m3) (r : Fin 64) (o : Fin 128) :
    k0_pay35 (F := Ideal) k0_pay52 (k0_pay8 s) C (ix2 r o) = C (ix2 r o) * s (ix2 r (grp 17 (by omega) o)) := by
  pointwise [k0_pay35, k0_pay8]
  exact congrArg (fun q => C (ix2 r o) * s (ix2 r q)) (lane_grp 17 (by omega) o 68#32 rfl r _)

theorem deq20 (s : Vec Ideal S64x128 .f32) (C : Vec Ideal S64x128 .fp8e4m3) (r : Fin 64) (o : Fin 128) :
    k0_pay37 (F := Ideal) (k0_pay8 s) (k0_pay36 k0_pay52) (0#32) C (ix2 r o) = C (ix2 r o) * s (ix2 r (grp 18 (by omega) o)) := by
  pointwise [k0_pay37, k0_pay36, k0_pay8]
  exact congrArg (fun q => C (ix2 r o) * s (ix2 r q)) (lane_grp 18 (by omega) o 72#32 rfl r _)

theorem deq21 (s : Vec Ideal S64x128 .f32) (C : Vec Ideal S64x128 .fp8e4m3) (r : Fin 64) (o : Fin 128) :
    k0_pay38 (F := Ideal) k0_pay52 (k0_pay8 s) C (ix2 r o) = C (ix2 r o) * s (ix2 r (grp 19 (by omega) o)) := by
  pointwise [k0_pay38, k0_pay8]
  exact congrArg (fun q => C (ix2 r o) * s (ix2 r q)) (lane_grp 19 (by omega) o 76#32 rfl r _)

theorem deq22 (s : Vec Ideal S64x128 .f32) (C : Vec Ideal S64x128 .fp8e4m3) (r : Fin 64) (o : Fin 128) :
    k0_pay40 (F := Ideal) (k0_pay8 s) (k0_pay39 k0_pay52) C (ix2 r o) = C (ix2 r o) * s (ix2 r (grp 20 (by omega) o)) := by
  pointwise [k0_pay40, k0_pay39, k0_pay8]
  exact congrArg (fun q => C (ix2 r o) * s (ix2 r q)) (lane_grp 20 (by omega) o 80#32 rfl r _)

theorem deq23 (s : Vec Ideal S64x128 .f32) (C : Vec Ideal S64x128 .fp8e4m3) (r : Fin 64) (o : Fin 128) :
    k0_pay41 (F := Ideal) k0_pay52 (k0_pay8 s) C (ix2 r o) = C (ix2 r o) * s (ix2 r (grp 21 (by omega) o)) := by
  pointwise [k0_pay41, k0_pay8]
  exact congrArg (fun q => C (ix2 r o) * s (ix2 r q)) (lane_grp 21 (by omega) o 84#32 rfl r _)

theorem deq24 (s : Vec Ideal S64x128 .f32) (C : Vec Ideal S64x128 .fp8e4m3) (r : Fin 64) (o : Fin 128) :
    k0_pay43 (F := Ideal) (k0_pay42 k0_pay52 (k0_pay8 s) C) (ix2 r o) = C (ix2 r o) * s (ix2 r (grp 22 (by omega) o)) := by
  pointwise [k0_pay43, k0_pay42, k0_pay8]
  exact congrArg (fun q => C (ix2 r o) * s (ix2 r q)) (lane_grp 22 (by omega) o 88#32 rfl r _)

theorem deq25 (s : Vec Ideal S64x128 .f32) (C : Vec Ideal S64x128 .fp8e4m3) (r : Fin 64) (o : Fin 128) :
    k0_pay44 (F := Ideal) k0_pay52 (k0_pay8 s) C (ix2 r o) = C (ix2 r o) * s (ix2 r (grp 23 (by omega) o)) := by
  pointwise [k0_pay44, k0_pay8]
  exact congrArg (fun q => C (ix2 r o) * s (ix2 r q)) (lane_grp 23 (by omega) o 92#32 rfl r _)

theorem deq26 (s : Vec Ideal S64x128 .f32) (C : Vec Ideal S64x128 .fp8e4m3) (r : Fin 64) (o : Fin 128) :
    k0_pay45 (F := Ideal) k0_pay52 (k0_pay8 s) C (ix2 r o) = C (ix2 r o) * s (ix2 r (grp 24 (by omega) o)) := by
  pointwise [k0_pay45, k0_pay8]
  exact congrArg (fun q => C (ix2 r o) * s (ix2 r q)) (lane_grp 24 (by omega) o 96#32 rfl r _)

theorem deq27 (s : Vec Ideal S64x128 .f32) (C : Vec Ideal S64x128 .fp8e4m3) (r : Fin 64) (o : Fin 128) :
    k0_pay47 (F := Ideal) k0_pay52 (k0_pay8 s) k0_pay46 C (ix2 r o) = C (ix2 r o) * s (ix2 r (grp 25 (by omega) o)) := by
  pointwise [k0_pay47, k0_pay46, k0_pay8]
  exact congrArg (fun q => C (ix2 r o) * s (ix2 r q)) (lane_grp 25 (by omega) o 100#32 rfl r _)

theorem deq28 (s : Vec Ideal S64x128 .f32) (C : Vec Ideal S64x128 .fp8e4m3) (r : Fin 64) (o : Fin 128) :
    k0_pay48 (F := Ideal) k0_pay52 (k0_pay8 s) C (ix2 r o) = C (ix2 r o) * s (ix2 r (grp 26 (by omega) o)) := by
  pointwise [k0_pay48, k0_pay8]
  exact congrArg (fun q => C (ix2 r o) * s (ix2 r q)) (lane_grp 26 (by omega) o 104#32 rfl r _)

theorem deq29 (s : Vec Ideal S64x128 .f32) (C : Vec Ideal S64x128 .fp8e4m3) (r : Fin 64) (o : Fin 128) :
    k0_pay53 (F := Ideal) (k0_pay8 s) (k0_pay49 k0_pay52) C (ix2 r o) = C (ix2 r o) * s (ix2 r (grp 27 (by omega) o)) := by
  pointwise [k0_pay53, k0_pay49, k0_pay8]
  exact congrArg (fun q => C (ix2 r o) * s (ix2 r q)) (lane_grp 27 (by omega) o 108#32 rfl r _)

theorem off1_eq : ∀ k : Fin k0_t1_loop.trips, k0_off1 k = ![64 * k.val, 0] := by decide +kernel
theorem off2_eq : ∀ k : Fin k0_t1_loop.trips, k0_off2 k = ![64 * k.val, 0] := by decide +kernel
theorem off3_eq : ∀ k : Fin k0_t1_loop.trips, k0_off3 k = ![64 * k.val, 128] := by decide +kernel
theorem off4_eq : ∀ k : Fin k0_t1_loop.trips, k0_off4 k = ![64 * k.val, 256] := by decide +kernel
theorem off5_eq : ∀ k : Fin k0_t1_loop.trips, k0_off5 k = ![64 * k.val, 384] := by decide +kernel
theorem off6_eq : ∀ k : Fin k0_t1_loop.trips, k0_off6 k = ![64 * k.val, 512] := by decide +kernel
theorem off7_eq : ∀ k : Fin k0_t1_loop.trips, k0_off7 k = ![64 * k.val, 640] := by decide +kernel
theorem off8_eq : ∀ k : Fin k0_t1_loop.trips, k0_off8 k = ![64 * k.val, 768] := by decide +kernel
theorem off9_eq : ∀ k : Fin k0_t1_loop.trips, k0_off9 k = ![64 * k.val, 896] := by decide +kernel
theorem off10_eq : ∀ k : Fin k0_t1_loop.trips, k0_off10 k = ![64 * k.val, 1024] := by decide +kernel
theorem off11_eq : ∀ k : Fin k0_t1_loop.trips, k0_off11 k = ![64 * k.val, 1152] := by decide +kernel
theorem off12_eq : ∀ k : Fin k0_t1_loop.trips, k0_off12 k = ![64 * k.val, 1280] := by decide +kernel
theorem off13_eq : ∀ k : Fin k0_t1_loop.trips, k0_off13 k = ![64 * k.val, 1408] := by decide +kernel
theorem off14_eq : ∀ k : Fin k0_t1_loop.trips, k0_off14 k = ![64 * k.val, 1536] := by decide +kernel
theorem off15_eq : ∀ k : Fin k0_t1_loop.trips, k0_off15 k = ![64 * k.val, 1664] := by decide +kernel
theorem off16_eq : ∀ k : Fin k0_t1_loop.trips, k0_off16 k = ![64 * k.val, 1792] := by decide +kernel
theorem off17_eq : ∀ k : Fin k0_t1_loop.trips, k0_off17 k = ![64 * k.val, 1920] := by decide +kernel
theorem off18_eq : ∀ k : Fin k0_t1_loop.trips, k0_off18 k = ![64 * k.val, 2048] := by decide +kernel
theorem off19_eq : ∀ k : Fin k0_t1_loop.trips, k0_off19 k = ![64 * k.val, 2176] := by decide +kernel
theorem off20_eq : ∀ k : Fin k0_t1_loop.trips, k0_off20 k = ![64 * k.val, 2304] := by decide +kernel
theorem off21_eq : ∀ k : Fin k0_t1_loop.trips, k0_off21 k = ![64 * k.val, 2432] := by decide +kernel
theorem off22_eq : ∀ k : Fin k0_t1_loop.trips, k0_off22 k = ![64 * k.val, 2560] := by decide +kernel
theorem off23_eq : ∀ k : Fin k0_t1_loop.trips, k0_off23 k = ![64 * k.val, 2688] := by decide +kernel
theorem off24_eq : ∀ k : Fin k0_t1_loop.trips, k0_off24 k = ![64 * k.val, 2816] := by decide +kernel
theorem off25_eq : ∀ k : Fin k0_t1_loop.trips, k0_off25 k = ![64 * k.val, 2944] := by decide +kernel
theorem off26_eq : ∀ k : Fin k0_t1_loop.trips, k0_off26 k = ![64 * k.val, 3072] := by decide +kernel
theorem off27_eq : ∀ k : Fin k0_t1_loop.trips, k0_off27 k = ![64 * k.val, 3200] := by decide +kernel
theorem off28_eq : ∀ k : Fin k0_t1_loop.trips, k0_off28 k = ![64 * k.val, 3328] := by decide +kernel
theorem off29_eq : ∀ k : Fin k0_t1_loop.trips, k0_off29 k = ![64 * k.val, 3456] := by decide +kernel

/-- What the token tile's dequantised rows hold: each code times the scale of its group of 32 columns. -/
def XH (x1 : Vec Ideal S1024x3584 .fp8e4m3) (x2 : Vec Ideal S1024x128 .f32) : Vec Ideal S1024x3584 .bf16 := fun y =>
  x1 y * x2 (ix2 (y 0) ⟨(y 1).val / 32, by have := ValueIdx.idx2_lt1 y; omega⟩)

/-- A block of 64 rows and 128 columns, loaded, is the array at the shifted index. -/
theorem codes_at {a : Memref sig .tc .vmem S1024x3584 .fp8e4m3} (ha : a.IsWhole) (x : Vec Ideal S1024x3584 .fp8e4m3) (off : Fin 2 → Nat)
    (inb : ∀ d, off d + S64x128.size d ≤ S1024x3584.size d) {r c : Nat} (h : off = ![r, c]) (p : Fin 64) (o : Fin 128) :
    View.readAt (Elt Ideal) a.view (Rect.unit (s := S1024x3584) off S64x128.size inb).toLoadRect (ha.unread x) (ix2 p o)
      = x (ix2 ⟨r + p.val, by have := inb 0; subst h; simp at this; omega⟩ ⟨c + o.val, by have := inb 1; subst h; simp at this; omega⟩) := by
  subst h
  rw [View.readAt_eq_ld, ha.read_unread, View.ld_unit]
  pointwise

theorem scale_at {a : Memref sig .tc .vmem S1024x128 .f32} (ha : a.IsWhole) (x : Vec Ideal S1024x128 .f32) (off : Fin 2 → Nat)
    (inb : ∀ d, off d + S64x128.size d ≤ S1024x128.size d) {r : Nat} (h : off = ![r, 0]) (p : Fin 64) (o : Fin 128) :
    View.readAt (Elt Ideal) a.view (Rect.unit (s := S1024x128) off S64x128.size inb).toLoadRect (ha.unread x) (ix2 p o)
      = x (ix2 ⟨r + p.val, by have := inb 0; subst h; simp at this; omega⟩ o) := by
  subst h
  rw [View.readAt_eq_ld, ha.read_unread, View.ld_unit]
  pointwise

/-- A stored block whose elements are code times scale is a block of `XH`. -/
theorem piece_ok (c : Nat) (hc : c < 28) (k : Nat) (hk : k < 16) (x1 : Vec Ideal S1024x3584 .fp8e4m3) (x2 : Vec Ideal S1024x128 .f32) (off : Fin 2 → Nat)
    (inb : ∀ d, off d + S64x128.size d ≤ S1024x3584.size d) (w : S64x128.Idx → Elt Ideal .bf16) (hoff : off = ![64 * k, 128 * c])
    (hw : ∀ (r : Fin 64) (o : Fin 128), w (ix2 r o) = x1 (ix2 ⟨64 * k + r.val, by omega⟩ ⟨128 * c + o.val, by omega⟩) * x2 (ix2 ⟨64 * k + r.val, by omega⟩ (grp c hc o)))
    (x : S64x128.Idx) : w x = XH x1 x2 ((Rect.unit (s := S1024x3584) off S64x128.size inb).emb x) := by
  subst hoff
  obtain ⟨r, o, rfl⟩ : ∃ (r : Fin 64) (o : Fin 128), x = ix2 r o := ⟨x 0, x 1, ValueIdx.eq_ix2 x⟩
  rw [hw]
  have e : (Rect.unit (s := S1024x3584) ![64 * k, 128 * c] S64x128.size inb).emb (ix2 r o) = ix2 ⟨64 * k + r.val, by omega⟩ ⟨128 * c + o.val, by omega⟩ := by
    funext a; apply Fin.ext
    match a with
    | ⟨0, _⟩ => show 64 * k + 1 * r.val = 64 * k + r.val; omega
    | ⟨1, _⟩ => show 128 * c + 1 * o.val = 128 * c + o.val; omega
  rw [e]
  unfold XH
  refine congrArg (fun q => _ * x2 (ix2 _ q)) (Fin.ext ?_)
  show o.val / 32 + 4 * c = (128 * c + o.val) / 32
  omega

/-- Every piece one trip stores is a block of `XH`. -/
theorem trip_pieces (𝒱 : Variants) (c : Dev nD) (bd : Option 𝒱.V) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (k0_h2 : k0_cond2 i = 1#1)
    (x1 : Vec Ideal S1024x3584 .fp8e4m3) (x2 : Vec Ideal S1024x128 .f32) (k : Fin k0_t1_loop.trips) :
    View.PiecesOf (XH x1 x2) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (harg3.unread x1) (harg4.unread x2) k) := by
  have hk : k.val < 16 := k.isLt
  unfold tripL_k0_t1 trip_k0_t1
  dsimp only
  sl_unfold_words
  dsimp only
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact piece_ok 27 (by omega) k.val hk x1 x2 _ (k0_off29_inb i k k0_h2) _ (off29_eq k) (fun r o => (deq29 _ _ r o).trans (congrArg₂ (fun a b : EReal => a * b) (codes_at harg3 x1 _ (k0_off29_inb i k k0_h2) (off29_eq k) r o) (scale_at harg4 x2 _ (k0_off1_inb i k k0_h2) (off1_eq k) r _))) x
  · exact piece_ok 26 (by omega) k.val hk x1 x2 _ (k0_off28_inb i k k0_h2) _ (off28_eq k) (fun r o => (deq28 _ _ r o).trans (congrArg₂ (fun a b : EReal => a * b) (codes_at harg3 x1 _ (k0_off28_inb i k k0_h2) (off28_eq k) r o) (scale_at harg4 x2 _ (k0_off1_inb i k k0_h2) (off1_eq k) r _))) x
  · exact piece_ok 25 (by omega) k.val hk x1 x2 _ (k0_off27_inb i k k0_h2) _ (off27_eq k) (fun r o => (deq27 _ _ r o).trans (congrArg₂ (fun a b : EReal => a * b) (codes_at harg3 x1 _ (k0_off27_inb i k k0_h2) (off27_eq k) r o) (scale_at harg4 x2 _ (k0_off1_inb i k k0_h2) (off1_eq k) r _))) x
  · exact piece_ok 24 (by omega) k.val hk x1 x2 _ (k0_off26_inb i k k0_h2) _ (off26_eq k) (fun r o => (deq26 _ _ r o).trans (congrArg₂ (fun a b : EReal => a * b) (codes_at harg3 x1 _ (k0_off26_inb i k k0_h2) (off26_eq k) r o) (scale_at harg4 x2 _ (k0_off1_inb i k k0_h2) (off1_eq k) r _))) x
  · exact piece_ok 23 (by omega) k.val hk x1 x2 _ (k0_off25_inb i k k0_h2) _ (off25_eq k) (fun r o => (deq25 _ _ r o).trans (congrArg₂ (fun a b : EReal => a * b) (codes_at harg3 x1 _ (k0_off25_inb i k k0_h2) (off25_eq k) r o) (scale_at harg4 x2 _ (k0_off1_inb i k k0_h2) (off1_eq k) r _))) x
  · exact piece_ok 22 (by omega) k.val hk x1 x2 _ (k0_off24_inb i k k0_h2) _ (off24_eq k) (fun r o => (deq24 _ _ r o).trans (congrArg₂ (fun a b : EReal => a * b) (codes_at harg3 x1 _ (k0_off24_inb i k k0_h2) (off24_eq k) r o) (scale_at harg4 x2 _ (k0_off1_inb i k k0_h2) (off1_eq k) r _))) x
  · exact piece_ok 21 (by omega) k.val hk x1 x2 _ (k0_off23_inb i k k0_h2) _ (off23_eq k) (fun r o => (deq23 _ _ r o).trans (congrArg₂ (fun a b : EReal => a * b) (codes_at harg3 x1 _ (k0_off23_inb i k k0_h2) (off23_eq k) r o) (scale_at harg4 x2 _ (k0_off1_inb i k k0_h2) (off1_eq k) r _))) x
  · exact piece_ok 20 (by omega) k.val hk x1 x2 _ (k0_off22_inb i k k0_h2) _ (off22_eq k) (fun r o => (deq22 _ _ r o).trans (congrArg₂ (fun a b : EReal => a * b) (codes_at harg3 x1 _ (k0_off22_inb i k k0_h2) (off22_eq k) r o) (scale_at harg4 x2 _ (k0_off1_inb i k k0_h2) (off1_eq k) r _))) x
  · exact piece_ok 19 (by omega) k.val hk x1 x2 _ (k0_off21_inb i k k0_h2) _ (off21_eq k) (fun r o => (deq21 _ _ r o).trans (congrArg₂ (fun a b : EReal => a * b) (codes_at harg3 x1 _ (k0_off21_inb i k k0_h2) (off21_eq k) r o) (scale_at harg4 x2 _ (k0_off1_inb i k k0_h2) (off1_eq k) r _))) x
  · exact piece_ok 18 (by omega) k.val hk x1 x2 _ (k0_off20_inb i k k0_h2) _ (off20_eq k) (fun r o => (deq20 _ _ r o).trans (congrArg₂ (fun a b : EReal => a * b) (codes_at harg3 x1 _ (k0_off20_inb i k k0_h2) (off20_eq k) r o) (scale_at harg4 x2 _ (k0_off1_inb i k k0_h2) (off1_eq k) r _))) x
  · exact piece_ok 17 (by omega) k.val hk x1 x2 _ (k0_off19_inb i k k0_h2) _ (off19_eq k) (fun r o => (deq19 _ _ r o).trans (congrArg₂ (fun a b : EReal => a * b) (codes_at harg3 x1 _ (k0_off19_inb i k k0_h2) (off19_eq k) r o) (scale_at harg4 x2 _ (k0_off1_inb i k k0_h2) (off1_eq k) r _))) x
  · exact piece_ok 16 (by omega) k.val hk x1 x2 _ (k0_off18_inb i k k0_h2) _ (off18_eq k) (fun r o => (deq18 _ _ r o).trans (congrArg₂ (fun a b : EReal => a * b) (codes_at harg3 x1 _ (k0_off18_inb i k k0_h2) (off18_eq k) r o) (scale_at harg4 x2 _ (k0_off1_inb i k k0_h2) (off1_eq k) r _))) x
  · exact piece_ok 15 (by omega) k.val hk x1 x2 _ (k0_off17_inb i k k0_h2) _ (off17_eq k) (fun r o => (deq17 _ _ r o).trans (congrArg₂ (fun a b : EReal => a * b) (codes_at harg3 x1 _ (k0_off17_inb i k k0_h2) (off17_eq k) r o) (scale_at harg4 x2 _ (k0_off1_inb i k k0_h2) (off1_eq k) r _))) x
  · exact piece_ok 14 (by omega) k.val hk x1 x2 _ (k0_off16_inb i k k0_h2) _ (off16_eq k) (fun r o => (deq16 _ _ r o).trans (congrArg₂ (fun a b : EReal => a * b) (codes_at harg3 x1 _ (k0_off16_inb i k k0_h2) (off16_eq k) r o) (scale_at harg4 x2 _ (k0_off1_inb i k k0_h2) (off1_eq k) r _))) x
  · exact piece_ok 13 (by omega) k.val hk x1 x2 _ (k0_off15_inb i k k0_h2) _ (off15_eq k) (fun r o => (deq15 _ _ r o).trans (congrArg₂ (fun a b : EReal => a * b) (codes_at harg3 x1 _ (k0_off15_inb i k k0_h2) (off15_eq k) r o) (scale_at harg4 x2 _ (k0_off1_inb i k k0_h2) (off1_eq k) r _))) x
  · exact piece_ok 12 (by omega) k.val hk x1 x2 _ (k0_off14_inb i k k0_h2) _ (off14_eq k) (fun r o => (deq14 _ _ r o).trans (congrArg₂ (fun a b : EReal => a * b) (codes_at harg3 x1 _ (k0_off14_inb i k k0_h2) (off14_eq k) r o) (scale_at harg4 x2 _ (k0_off1_inb i k k0_h2) (off1_eq k) r _))) x
  · exact piece_ok 11 (by omega) k.val hk x1 x2 _ (k0_off13_inb i k k0_h2) _ (off13_eq k) (fun r o => (deq13 _ _ r o).trans (congrArg₂ (fun a b : EReal => a * b) (codes_at harg3 x1 _ (k0_off13_inb i k k0_h2) (off13_eq k) r o) (scale_at harg4 x2 _ (k0_off1_inb i k k0_h2) (off1_eq k) r _))) x
  · exact piece_ok 10 (by omega) k.val hk x1 x2 _ (k0_off12_inb i k k0_h2) _ (off12_eq k) (fun r o => (deq12 _ _ r o).trans (congrArg₂ (fun a b : EReal => a * b) (codes_at harg3 x1 _ (k0_off12_inb i k k0_h2) (off12_eq k) r o) (scale_at harg4 x2 _ (k0_off1_inb i k k0_h2) (off1_eq k) r _))) x
  · exact piece_ok 9 (by omega) k.val hk x1 x2 _ (k0_off11_inb i k k0_h2) _ (off11_eq k) (fun r o => (deq11 _ _ r o).trans (congrArg₂ (fun a b : EReal => a * b) (codes_at harg3 x1 _ (k0_off11_inb i k k0_h2) (off11_eq k) r o) (scale_at harg4 x2 _ (k0_off1_inb i k k0_h2) (off1_eq k) r _))) x
  · exact piece_ok 8 (by omega) k.val hk x1 x2 _ (k0_off10_inb i k k0_h2) _ (off10_eq k) (fun r o => (deq10 _ _ r o).trans (congrArg₂ (fun a b : EReal => a * b) (codes_at harg3 x1 _ (k0_off10_inb i k k0_h2) (off10_eq k) r o) (scale_at harg4 x2 _ (k0_off1_inb i k k0_h2) (off1_eq k) r _))) x
  · exact piece_ok 7 (by omega) k.val hk x1 x2 _ (k0_off9_inb i k k0_h2) _ (off9_eq k) (fun r o => (deq9 _ _ r o).trans (congrArg₂ (fun a b : EReal => a * b) (codes_at harg3 x1 _ (k0_off9_inb i k k0_h2) (off9_eq k) r o) (scale_at harg4 x2 _ (k0_off1_inb i k k0_h2) (off1_eq k) r _))) x
  · exact piece_ok 6 (by omega) k.val hk x1 x2 _ (k0_off8_inb i k k0_h2) _ (off8_eq k) (fun r o => (deq8 _ _ r o).trans (congrArg₂ (fun a b : EReal => a * b) (codes_at harg3 x1 _ (k0_off8_inb i k k0_h2) (off8_eq k) r o) (scale_at harg4 x2 _ (k0_off1_inb i k k0_h2) (off1_eq k) r _))) x
  · exact piece_ok 5 (by omega) k.val hk x1 x2 _ (k0_off7_inb i k k0_h2) _ (off7_eq k) (fun r o => (deq7 _ _ r o).trans (congrArg₂ (fun a b : EReal => a * b) (codes_at harg3 x1 _ (k0_off7_inb i k k0_h2) (off7_eq k) r o) (scale_at harg4 x2 _ (k0_off1_inb i k k0_h2) (off1_eq k) r _))) x
  · exact piece_ok 4 (by omega) k.val hk x1 x2 _ (k0_off6_inb i k k0_h2) _ (off6_eq k) (fun r o => (deq6 _ _ r o).trans (congrArg₂ (fun a b : EReal => a * b) (codes_at harg3 x1 _ (k0_off6_inb i k k0_h2) (off6_eq k) r o) (scale_at harg4 x2 _ (k0_off1_inb i k k0_h2) (off1_eq k) r _))) x
  · exact piece_ok 3 (by omega) k.val hk x1 x2 _ (k0_off5_inb i k k0_h2) _ (off5_eq k) (fun r o => (deq5 _ _ r o).trans (congrArg₂ (fun a b : EReal => a * b) (codes_at harg3 x1 _ (k0_off5_inb i k k0_h2) (off5_eq k) r o) (scale_at harg4 x2 _ (k0_off1_inb i k k0_h2) (off1_eq k) r _))) x
  · exact piece_ok 2 (by omega) k.val hk x1 x2 _ (k0_off4_inb i k k0_h2) _ (off4_eq k) (fun r o => (deq4 _ _ r o).trans (congrArg₂ (fun a b : EReal => a * b) (codes_at harg3 x1 _ (k0_off4_inb i k k0_h2) (off4_eq k) r o) (scale_at harg4 x2 _ (k0_off1_inb i k k0_h2) (off1_eq k) r _))) x
  · exact piece_ok 1 (by omega) k.val hk x1 x2 _ (k0_off3_inb i k k0_h2) _ (off3_eq k) (fun r o => (deq3 _ _ r o).trans (congrArg₂ (fun a b : EReal => a * b) (codes_at harg3 x1 _ (k0_off3_inb i k k0_h2) (off3_eq k) r o) (scale_at harg4 x2 _ (k0_off1_inb i k k0_h2) (off1_eq k) r _))) x
  · exact piece_ok 0 (by omega) k.val hk x1 x2 _ (k0_off2_inb i k k0_h2) _ (off2_eq k) (fun r o => (deq2 _ _ r o).trans (congrArg₂ (fun a b : EReal => a * b) (codes_at harg3 x1 _ (k0_off2_inb i k k0_h2) (off2_eq k) r o) (scale_at harg4 x2 _ (k0_off1_inb i k k0_h2) (off1_eq k) r _))) x

/-- Every piece the loop stores is a block of `XH`. -/
theorem loop_pieces (𝒱 : Variants) (c : Dev nD) (bd : Option 𝒱.V) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (k0_h2 : k0_cond2 i = 1#1)
    (x1 : Vec Ideal S1024x3584 .fp8e4m3) (x2 : Vec Ideal S1024x128 .f32) (k : Nat) (hk : k ≤ 16) :
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (harg3.unread x1) (harg4.unread x2) k, ∀ x : p.1.shape.Idx, p.2 x = XH x1 x2 (p.1.emb x) := by
  induction k with
  | zero => intro p hp; exact absurd hp List.not_mem_nil
  | succ k ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (harg3.unread x1) (harg4.unread x2) ⟨k, hk⟩
    intro p hp
    rw [show k + 1 = (⟨k, hk⟩ : Fin k0_t1_loop.trips).val + 1 from rfl, e] at hp
    rcases List.mem_append.mp hp with h | h
    · exact (trip_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 x1 x2 _).mem p h
    · exact ih (by omega) p h

end Cert.KernelIdeal.Hand
-- ==== Proof.KStep.lean ====
/-
  What one grid step of the main kernel does to its running buffers, as whole-array formulas, and the lemmas that read
  stored pieces back as those formulas.
-/
module

public import proofs.«01_k».proof.Proof.KDeq
public import proofs.«01_k».proof.Proof.Gen.KernelIdeal.Frame
public import Idealize.ShloMosaic.Lib.WritesUnit
public import Idealize.ShloMosaic.Lib.Pipeline.ReadBack
public import Idealize.ShloMosaic.Lib.Pipeline.Value

@[expose] public section

set_option maxRecDepth 16384

noncomputable section

namespace Cert.KernelIdeal.Hand

open Idealize.ShloMosaic Idealize.ShloMosaic.TcCoe Idealize.SL.Sem Idealize.ShloMosaic.Tactic
open Idealize.ShloMosaic.Pointwise
open Cert.KernelIdeal Cert.KernelIdeal.Gen
open scoped BigOperators

theorem z2 : ∀ a : Fin 2, (![0, 0] : Fin 2 → Nat) a = 0 := by decide
theorem z3 : ∀ a : Fin 3, (![0, 0, 0] : Fin 3 → Nat) a = 0 := by decide

/-- A load of a whole buffer reads its contents. -/
theorem ra_whole {S : Shape} {e : EltTy} {a : Memref sig .tc .vmem S e} (ha : a.IsWhole) (x : S.Idx → Elt Ideal e) {off : Fin S.rank → Nat}
    (h : ∀ d, off d = 0) (inb : ∀ d, off d + S.size d ≤ S.size d) :
    View.readAt (Elt Ideal) a.view (Rect.unit off (no_index S.size) inb).toLoadRect (ha.unread x) = x := by
  rw [View.readAt_eq_ld, ha.read_unread, View.ld_unit_zero (S := S) (funext h)]

/-- The step's scaled gradient tile. -/
abbrev PT (x0 : Vec Ideal S1024x512 .bf16) (x6 x7 : Vec Ideal S1x512 .f32) : FVec Ideal S1024x512 .bf16 := k0_pay60 (F := Ideal) x0 x6 x7

/-- The input gradient's accumulator after a step. -/
def accG (p : FVec Ideal S1024x512 .bf16) (a : S1024x3584.Idx → EReal) (v : Vec Ideal S1x3584x512 .bf16) : S1024x3584.Idx → EReal := fun y =>
  a y + ∑ k : Fin 512, p (ix2 (y 0) k) * v (ix3 0 (y 1) k)

/-- The rank-16 image of the gradient after a step. -/
def htG (p : FVec Ideal S1024x512 .bf16) (a : S16x1024.Idx → EReal) (b : Vec Ideal S16x512 .bf16) : S16x1024.Idx → EReal := fun y =>
  a y + ∑ o : Fin 512, b (ix2 (y 0) o) * p (ix2 (y 1) o)

/-- The rank-16 image of the activations. -/
def xatG (a : Vec Ideal S16x3584 .bf16) (xh : Vec Ideal S1024x3584 .bf16) : S16x1024.Idx → EReal := fun y =>
  ∑ k : Fin 3584, a (ix2 (y 0) k) * xh (ix2 (y 1) k)

/-- The gradient of A after a token tile is done. -/
def daG (a : S16x3584.Idx → EReal) (h : S16x1024.Idx → EReal) (xh : Vec Ideal S1024x3584 .bf16) : S16x3584.Idx → EReal := fun y =>
  a y + ∑ r : Fin 1024, h (ix2 (y 0) r) * xh (ix2 r (y 1))

/-- The gradient of B after a step at column tile `j`. -/
def dbG (j : Nat) (p : FVec Ideal S1024x512 .bf16) (a : S16x18944.Idx → EReal) (xat : S16x1024.Idx → EReal) : S16x18944.Idx → EReal := fun y =>
  if h : 512 * j ≤ (y 1).val ∧ (y 1).val < 512 * j + 512 then
    a y + ∑ r : Fin 1024, xat (ix2 (y 0) r) * p (ix2 r ⟨(y 1).val - 512 * j, by omega⟩)
  else a y

/-- The gradient of the magnitudes after a step at column tile `j`. -/
def dmG (j : Nat) (x0 : Vec Ideal S1024x512 .bf16) (a : S1x18944.Idx → EReal) (xh : Vec Ideal S1024x3584 .bf16) (v : Vec Ideal S1x3584x512 .bf16)
    (x7 : Vec Ideal S1x512 .f32) : S1x18944.Idx → EReal := fun y =>
  if h : 512 * j ≤ (y 1).val ∧ (y 1).val < 512 * j + 512 then
    a y + Ideal.div (∑ r : Fin 1024, x0 (ix2 r ⟨(y 1).val - 512 * j, by omega⟩) * ∑ k : Fin 3584, xh (ix2 r k) * v (ix3 0 k ⟨(y 1).val - 512 * j, by omega⟩))
      (x7 (ix2 0 ⟨(y 1).val - 512 * j, by omega⟩))
  else a y

theorem dbG_in (j : Nat) (p : FVec Ideal S1024x512 .bf16) (a : S16x18944.Idx → EReal) (xat : S16x1024.Idx → EReal) (r : Fin 16) (o : Fin 18944)
    (h : 512 * j ≤ o.val) (h' : o.val < 512 * j + 512) :
    dbG j p a xat (ix2 r o) = a (ix2 r o) + ∑ q : Fin 1024, xat (ix2 r q) * p (ix2 q ⟨o.val - 512 * j, by omega⟩) := by
  unfold dbG
  exact dif_pos (c := 512 * j ≤ ((ix2 r o : S16x18944.Idx) 1).val ∧ ((ix2 r o : S16x18944.Idx) 1).val < 512 * j + 512) ⟨h, h'⟩

theorem dbG_out (j : Nat) (p : FVec Ideal S1024x512 .bf16) (a : S16x18944.Idx → EReal) (xat : S16x1024.Idx → EReal) (r : Fin 16) (o : Fin 18944)
    (h : ¬(512 * j ≤ o.val ∧ o.val < 512 * j + 512)) : dbG j p a xat (ix2 r o) = a (ix2 r o) := by
  unfold dbG
  exact dif_neg (c := 512 * j ≤ ((ix2 r o : S16x18944.Idx) 1).val ∧ ((ix2 r o : S16x18944.Idx) 1).val < 512 * j + 512) h

theorem dmG_in (j : Nat) (x0 : Vec Ideal S1024x512 .bf16) (a : S1x18944.Idx → EReal) (xh : Vec Ideal S1024x3584 .bf16) (v : Vec Ideal S1x3584x512 .bf16)
    (x7 : Vec Ideal S1x512 .f32) (o : Fin 18944) (h : 512 * j ≤ o.val) (h' : o.val < 512 * j + 512) :
    dmG j x0 a xh v x7 (ix2 0 o) = a (ix2 0 o) + Ideal.div (∑ q : Fin 1024, x0 (ix2 q ⟨o.val - 512 * j, by omega⟩) * ∑ k : Fin 3584, xh (ix2 q k) * v (ix3 0 k ⟨o.val - 512 * j, by omega⟩))
      (x7 (ix2 0 ⟨o.val - 512 * j, by omega⟩)) := by
  unfold dmG
  exact dif_pos (c := 512 * j ≤ ((ix2 0 o : S1x18944.Idx) 1).val ∧ ((ix2 0 o : S1x18944.Idx) 1).val < 512 * j + 512) ⟨h, h'⟩

theorem dmG_out (j : Nat) (x0 : Vec Ideal S1024x512 .bf16) (a : S1x18944.Idx → EReal) (xh : Vec Ideal S1024x3584 .bf16) (v : Vec Ideal S1x3584x512 .bf16)
    (x7 : Vec Ideal S1x512 .f32) (o : Fin 18944) (h : ¬(512 * j ≤ o.val ∧ o.val < 512 * j + 512)) : dmG j x0 a xh v x7 (ix2 0 o) = a (ix2 0 o) := by
  unfold dmG
  exact dif_neg (c := 512 * j ≤ ((ix2 0 o : S1x18944.Idx) 1).val ∧ ((ix2 0 o : S1x18944.Idx) 1).val < 512 * j + 512) h

theorem off30_eq : ∀ i : grid0.Coords, k0_off30 i = ![0, 512 * (i 1).val] := by decide +kernel
theorem off31_eq : ∀ i : grid0.Coords, k0_off31 i = ![0, 512 * (i 1).val] := by decide +kernel

/-- One of the seven column chunks of the accumulator's store is a block of the whole update. -/
theorem acc_piece (q : Nat) (hq : q < 7) (p : FVec Ideal S1024x512 .bf16) (a : S1024x3584.Idx → EReal) (v : Vec Ideal S1x3584x512 .bf16)
    (inb : ∀ d, (![0, 512 * q] : Fin 2 → Nat) d + S1024x512.size d ≤ S1024x3584.size d) (w : S1024x512.Idx → EReal)
    (hw : ∀ (r : Fin 1024) (o : Fin 512), w (ix2 r o) = a (ix2 r ⟨512 * q + o.val, by omega⟩) + ∑ k : Fin 512, p (ix2 r k) * v (ix3 0 ⟨512 * q + o.val, by omega⟩ k))
    (x : S1024x512.Idx) : w x = accG p a v ((Rect.unit (s := S1024x3584) ![0, 512 * q] S1024x512.size inb).emb x) := by
  obtain ⟨r, o, rfl⟩ : ∃ (r : Fin 1024) (o : Fin 512), x = ix2 r o := ⟨x 0, x 1, ValueIdx.eq_ix2 x⟩
  rw [hw]
  have e : (Rect.unit (s := S1024x3584) ![0, 512 * q] S1024x512.size inb).emb (ix2 r o) = ix2 r ⟨512 * q + o.val, by omega⟩ := by
    funext a; apply Fin.ext
    match a with
    | ⟨0, _⟩ => show 0 + 1 * r.val = r.val; omega
    | ⟨1, _⟩ => show 512 * q + 1 * o.val = 512 * q + o.val; omega
  rw [e]
  rfl

/-- A chunk of the accumulator, loaded. -/
theorem acc_at {a : Memref sig .tc .vmem S1024x3584 .f32} (ha : a.IsWhole) (x : Vec Ideal S1024x3584 .f32) (q : Nat) (hq : q < 7)
    (inb : ∀ d, (![0, 512 * q] : Fin 2 → Nat) d + S1024x512.size d ≤ S1024x3584.size d) (r : Fin 1024) (o : Fin 512) :
    View.readAt (Elt Ideal) a.view (Rect.unit (s := S1024x3584) ![0, 512 * q] S1024x512.size inb).toLoadRect (ha.unread x) (ix2 r o)
      = x (ix2 r ⟨512 * q + o.val, by omega⟩) := by
  rw [View.readAt_eq_ld, ha.read_unread, View.ld_unit]
  pointwise

/-- A chunk of the weight tile's rows, loaded. -/
theorem v_at {a : Memref sig .tc .vmem S1x3584x512 .bf16} (ha : a.IsWhole) (x : Vec Ideal S1x3584x512 .bf16) (q : Nat) (hq : q < 7)
    (inb : ∀ d, (![0, 512 * q, 0] : Fin 3 → Nat) d + S1x512x512.size d ≤ S1x3584x512.size d) (r : Fin 512) (o : Fin 512) :
    View.readAt (Elt Ideal) a.view (Rect.unit (s := S1x3584x512) ![0, 512 * q, 0] S1x512x512.size inb).toLoadRect (ha.unread x) (ix3 0 r o)
      = x (ix3 0 ⟨512 * q + r.val, by omega⟩ o) := by
  rw [View.readAt_eq_ld, ha.read_unread, View.ld_unit]
  pointwise

theorem pay65_eq (p : FVec Ideal S1024x512 .bf16) (a : Vec Ideal S1024x512 .f32) (v : Vec Ideal S1x512x512 .bf16) : k0_pay65 (F := Ideal) p a v = k0_pay64 p a v := rfl
theorem pay66_eq (p : FVec Ideal S1024x512 .bf16) (a : Vec Ideal S1024x512 .f32) (v : Vec Ideal S1x512x512 .bf16) : k0_pay66 (F := Ideal) p a v = k0_pay64 p a v := rfl
theorem pay67_eq (p : FVec Ideal S1024x512 .bf16) (a : Vec Ideal S1024x512 .f32) (v : Vec Ideal S1x512x512 .bf16) : k0_pay67 (F := Ideal) p a v = k0_pay64 p a v := rfl
theorem pay68_eq (p : FVec Ideal S1024x512 .bf16) (a : Vec Ideal S1024x512 .f32) (v : Vec Ideal S1x512x512 .bf16) : k0_pay68 (F := Ideal) p a v = k0_pay64 p a v := rfl
theorem pay69_eq (p : FVec Ideal S1024x512 .bf16) (a : Vec Ideal S1024x512 .f32) (v : Vec Ideal S1x512x512 .bf16) : k0_pay69 (F := Ideal) p a v = k0_pay64 p a v := rfl
theorem pay70_eq (p : FVec Ideal S1024x512 .bf16) (a : Vec Ideal S1024x512 .f32) (v : Vec Ideal S1x512x512 .bf16) : k0_pay1 (k0_pay70 (F := Ideal) p a v) = k0_pay64 p a v := rfl

/-- One accumulator chunk over the point before's contents is a block of the whole update. -/
theorem chunk_ok (q : Nat) (hq : q < 7) {a15 : Memref sig .tc .vmem S1024x3584 .f32} (h15 : a15.IsWhole) {a5 : Memref sig .tc .vmem S1x3584x512 .bf16} (h5 : a5.IsWhole)
    (p : FVec Ideal S1024x512 .bf16) (a : Vec Ideal S1024x3584 .f32) (v : Vec Ideal S1x3584x512 .bf16)
    (inb : ∀ d, (![0, 512 * q] : Fin 2 → Nat) d + S1024x512.size d ≤ S1024x3584.size d)
    (inb' : ∀ d, (![0, 512 * q, 0] : Fin 3 → Nat) d + S1x512x512.size d ≤ S1x3584x512.size d) (x : S1024x512.Idx) :
    k0_pay64 (F := Ideal) p (View.readAt (Elt Ideal) a15.view (Rect.unit (s := S1024x3584) ![0, 512 * q] S1024x512.size inb).toLoadRect (h15.unread a))
        (View.readAt (Elt Ideal) a5.view (Rect.unit (s := S1x3584x512) ![0, 512 * q, 0] S1x512x512.size inb').toLoadRect (h5.unread v)) x
      = accG p a v ((Rect.unit (s := S1024x3584) ![0, 512 * q] S1024x512.size inb).emb x) :=
  acc_piece q hq p a v inb _ (fun r o => (pay64_apply ..).trans (congrArg₂ (fun s t : EReal => s + t) (acc_at h15 a q hq inb r o)
    (Finset.sum_congr rfl fun k _ => congrArg (fun t : EReal => p (ix2 r k) * t) (v_at h5 v q hq inb' o k)))) x

/-- One accumulator chunk over a buffer just zeroed. -/
theorem chunk_ok0 (q : Nat) (hq : q < 7) {a5 : Memref sig .tc .vmem S1x3584x512 .bf16} (h5 : a5.IsWhole)
    (p : FVec Ideal S1024x512 .bf16) (v : Vec Ideal S1x3584x512 .bf16) (a15 : View sig .tc .vmem S1024x3584 .f32) (L : List (View.Piece (Elt Ideal) S1024x3584 .f32))
    (inb : ∀ d, (![0, 512 * q] : Fin 2 → Nat) d + S1024x512.size d ≤ S1024x3584.size d)
    (hz : ∀ j, a15.readCov L (Rect.unit (s := S1024x3584) ![0, 512 * q] S1024x512.size inb).toLoadRect j = (0 : EReal))
    (inb' : ∀ d, (![0, 512 * q, 0] : Fin 3 → Nat) d + S1x512x512.size d ≤ S1x3584x512.size d) (x : S1024x512.Idx) :
    k0_pay64 (F := Ideal) p (a15.readCov L (Rect.unit (s := S1024x3584) ![0, 512 * q] S1024x512.size inb).toLoadRect)
        (View.readAt (Elt Ideal) a5.view (Rect.unit (s := S1x3584x512) ![0, 512 * q, 0] S1x512x512.size inb').toLoadRect (h5.unread v)) x
      = accG p (fun _ => 0) v ((Rect.unit (s := S1024x3584) ![0, 512 * q] S1024x512.size inb).emb x) :=
  acc_piece q hq p _ v inb _ (fun r o => (pay64_apply ..).trans (congrArg₂ (fun s t : EReal => s + t) (hz _)
    (Finset.sum_congr rfl fun k _ => congrArg (fun t : EReal => p (ix2 r k) * t) (v_at h5 v q hq inb' o k)))) x

theorem ht_eq (p : FVec Ideal S1024x512 .bf16) (a : Vec Ideal S16x1024 .f32) (b : Vec Ideal S16x512 .bf16) : k0_pay2 (F := Ideal) p a b = htG p a b :=
  funext fun y => by rw [ValueIdx.eq_ix2 y]; exact pay2_apply p a b _ _

theorem xat_eq (a : Vec Ideal S16x3584 .bf16) (xh : Vec Ideal S1024x3584 .bf16) : k0_pay58 (F := Ideal) (k0_pay54 a) xh = xatG a xh :=
  funext fun y => by
    rw [ValueIdx.eq_ix2 y, show k0_pay54 (F := Ideal) a = a from funext fun j => by rw [ValueIdx.eq_ix2 j]; pointwise [k0_pay54]]
    exact pay58_apply a xh _ _

theorem da_eq (a : Vec Ideal S16x3584 .f32) (h : Vec Ideal S16x1024 .f32) (xh : Vec Ideal S1024x3584 .bf16) : k0_pay5 (F := Ideal) a h xh = daG a h xh :=
  funext fun y => by rw [ValueIdx.eq_ix2 y]; exact pay5_apply a h xh _ _

theorem pay6_eq (a : Vec Ideal S16x3584 .f32) : k0_pay6 (F := Ideal) a = fun y => half * a y :=
  funext fun y => by rw [ValueIdx.eq_ix2 y]; exact pay6_apply a _ _
theorem pay7_eq (a : Vec Ideal S16x18944 .f32) : k0_pay7 (F := Ideal) a = fun y => half * a y :=
  funext fun y => by rw [ValueIdx.eq_ix2 y]; exact pay7_apply a _ _
theorem pay4_eq (a : Vec Ideal S1024x3584 .f32) : k0_pay4 (F := Ideal) a = a := rfl
theorem pay50_eq : k0_pay50 (F := Ideal) = fun _ => (0 : EReal) := funext fun y => by rw [ValueIdx.eq_ix2 y]; pointwise [k0_pay50]
theorem pay51_eq : k0_pay51 (F := Ideal) = fun _ => (0 : EReal) := funext fun y => by rw [ValueIdx.eq_ix2 y]; pointwise [k0_pay51]
theorem pay55_eq : k0_pay55 (F := Ideal) = fun _ => (0 : EReal) := funext fun y => by rw [ValueIdx.eq_ix2 y]; pointwise [k0_pay55]
theorem pay56_eq : k0_pay56 (F := Ideal) = fun _ => (0 : EReal) := funext fun y => by rw [ValueIdx.eq_ix2 y]; pointwise [k0_pay56]
theorem pay57_eq : k0_pay57 (F := Ideal) = fun _ => (0 : EReal) := funext fun y => by rw [ValueIdx.eq_ix2 y]; pointwise [k0_pay57]

/-- A store of the B gradient's columns at tile `j` over contents `a` leaves `dbG`. -/
theorem db_store {S5 : View sig .tc .vmem S16x18944 .f32} (f : S5.ty.Contents (Elt Ideal)) (L : List (View.Piece (Elt Ideal) S16x18944 .f32)) (j : Nat) (hj : j < 37)
    (p : FVec Ideal S1024x512 .bf16) (a : Vec Ideal S16x18944 .f32) (xat : Vec Ideal S16x1024 .bf16) (off : Fin 2 → Nat) (hoff : off = ![0, 512 * j])
    (inb : ∀ d, off d + S16x512.size d ≤ S16x18944.size d) (l : Vec Ideal S16x512 .f32)
    (hl : ∀ (k : Fin 16) (o : Fin 512), l (ix2 k o) = a (ix2 k ⟨512 * j + o.val, by omega⟩))
    (hL : S5.read (Elt Ideal) (S5.writes (Elt Ideal) f L) = a) :
    S5.read (Elt Ideal) (S5.writes (Elt Ideal) f ((⟨Rect.unit (s := S16x18944) off S16x512.size inb, k0_pay3 (F := Ideal) p l xat⟩ : View.Piece (Elt Ideal) S16x18944 .f32) :: L)) = dbG j p a xat := by
  subst hoff
  funext y
  obtain ⟨r, o, rfl⟩ : ∃ (r : Fin 16) (o : Fin 18944), y = ix2 r o := ⟨y 0, y 1, ValueIdx.eq_ix2 y⟩
  by_cases h : 512 * j ≤ o.val ∧ o.val < 512 * j + 512
  · refine Eq.trans ?_ (show a (ix2 r o) + ∑ q : Fin 1024, xat (ix2 r q) * p (ix2 q ⟨o.val - 512 * j, by omega⟩) = dbG j p a xat (ix2 r o) from (dbG_in j p a xat r o h.1 h.2).symm)
    rw [View.read_writes_cons_unit_of_mem S5 f inb _ L _ (ix2 r ⟨o.val - 512 * j, by omega⟩) rfl (by
      intro d
      match d with
      | ⟨0, _⟩ => show r.val = 0 + r.val; omega
      | ⟨1, _⟩ => show o.val = 512 * j + (o.val - 512 * j); omega)]
    refine (pay3_apply p l xat r ⟨o.val - 512 * j, by omega⟩).trans ?_
    rw [hl]
    refine congrArg (fun q => a (ix2 r q) + ∑ t : Fin 1024, xat (ix2 r t) * p (ix2 t ⟨o.val - 512 * j, by omega⟩)) (Fin.ext ?_)
    show 512 * j + (o.val - 512 * j) = o.val; omega
  · refine Eq.trans ?_ (show a (ix2 r o) = dbG j p a xat (ix2 r o) from (dbG_out j p a xat r o h).symm)
    rw [View.read_writes_cons_unit_of_not_mem S5 f inb _ L _ rfl 1 (by
      show o.val < 512 * j ∨ 512 * j + 512 ≤ o.val; omega), hL]

/-- A store of the magnitude gradient's columns at tile `j` over contents `a` leaves `dmG`. -/
theorem dm_store {S5 : View sig .tc .vmem S1x18944 .f32} (f : S5.ty.Contents (Elt Ideal)) (L : List (View.Piece (Elt Ideal) S1x18944 .f32)) (j : Nat) (hj : j < 37)
    (x0 : Vec Ideal S1024x512 .bf16) (a : Vec Ideal S1x18944 .f32) (xh : Vec Ideal S1024x3584 .bf16) (v : Vec Ideal S1x3584x512 .bf16) (x7 : Vec Ideal S1x512 .f32)
    (off : Fin 2 → Nat) (hoff : off = ![0, 512 * j])
    (inb : ∀ d, off d + S1x512.size d ≤ S1x18944.size d) (l : Vec Ideal S1x512 .f32)
    (hl : ∀ (k : Fin 1) (o : Fin 512), l (ix2 k o) = a (ix2 k ⟨512 * j + o.val, by omega⟩))
    (hL : S5.read (Elt Ideal) (S5.writes (Elt Ideal) f L) = a) :
    S5.read (Elt Ideal) (S5.writes (Elt Ideal) f ((⟨Rect.unit (s := S1x18944) off S1x512.size inb, k0_pay63 (F := Ideal) (k0_pay61 l) (k0_pay62 x0 xh v x7)⟩ : View.Piece (Elt Ideal) S1x18944 .f32) :: L)) = dmG j x0 a xh v x7 := by
  subst hoff
  funext y
  obtain ⟨r, o, rfl⟩ : ∃ (r : Fin 1) (o : Fin 18944), y = ix2 r o := ⟨y 0, y 1, ValueIdx.eq_ix2 y⟩
  obtain rfl : r = 0 := Subsingleton.elim _ _
  by_cases h : 512 * j ≤ o.val ∧ o.val < 512 * j + 512
  · refine Eq.trans ?_ (show a (ix2 0 o) + Ideal.div (∑ q : Fin 1024, x0 (ix2 q ⟨o.val - 512 * j, by omega⟩) * ∑ k : Fin 3584, xh (ix2 q k) * v (ix3 0 k ⟨o.val - 512 * j, by omega⟩))
      (x7 (ix2 0 ⟨o.val - 512 * j, by omega⟩)) = dmG j x0 a xh v x7 (ix2 0 o) from (dmG_in j x0 a xh v x7 o h.1 h.2).symm)
    rw [View.read_writes_cons_unit_of_mem S5 f inb _ L _ (ix2 0 ⟨o.val - 512 * j, by omega⟩) rfl (by
      intro d
      match d with
      | ⟨0, _⟩ => rfl
      | ⟨1, _⟩ => show o.val = 512 * j + (o.val - 512 * j); omega)]
    have e61 : k0_pay61 (F := Ideal) l (ix2 0 ⟨o.val - 512 * j, by omega⟩) = a (ix2 0 o) := by
      refine Eq.trans (b := l (ix2 0 ⟨o.val - 512 * j, by omega⟩)) (by pointwise [k0_pay61]) ?_
      rw [hl]
      refine congrArg (fun q => a (ix2 0 q)) (Fin.ext ?_)
      show 512 * j + (o.val - 512 * j) = o.val; omega
    exact congrArg₂ (fun s t : EReal => s + t) e61 (pay62_apply x0 xh v x7 _)
  · refine Eq.trans ?_ (show a (ix2 0 o) = dmG j x0 a xh v x7 (ix2 0 o) from (dmG_out j x0 a xh v x7 o h).symm)
    rw [View.read_writes_cons_unit_of_not_mem S5 f inb _ L _ rfl 1 (by
      show o.val < 512 * j ∨ 512 * j + 512 ≤ o.val; omega), hL]

/-- The columns at tile `j` of the B gradient, loaded. -/
theorem db_at {a : Memref sig .tc .vmem S16x18944 .f32} (ha : a.IsWhole) (x : Vec Ideal S16x18944 .f32) (j : Nat) (hj : j < 37) (off : Fin 2 → Nat) (hoff : off = ![0, 512 * j])
    (inb : ∀ d, off d + S16x512.size d ≤ S16x18944.size d) (k : Fin 16) (o : Fin 512) :
    View.readAt (Elt Ideal) a.view (Rect.unit (s := S16x18944) off S16x512.size inb).toLoadRect (ha.unread x) (ix2 k o) = x (ix2 k ⟨512 * j + o.val, by omega⟩) := by
  subst hoff
  rw [View.readAt_eq_ld, ha.read_unread, View.ld_unit]
  pointwise

/-- The columns at tile `j` of the magnitude gradient, loaded. -/
theorem dm_at {a : Memref sig .tc .vmem S1x18944 .f32} (ha : a.IsWhole) (x : Vec Ideal S1x18944 .f32) (j : Nat) (hj : j < 37) (off : Fin 2 → Nat) (hoff : off = ![0, 512 * j])
    (inb : ∀ d, off d + S1x512.size d ≤ S1x18944.size d) (k : Fin 1) (o : Fin 512) :
    View.readAt (Elt Ideal) a.view (Rect.unit (s := S1x18944) off S1x512.size inb).toLoadRect (ha.unread x) (ix2 k o) = x (ix2 k ⟨512 * j + o.val, by omega⟩) := by
  subst hoff
  rw [View.readAt_eq_ld, ha.read_unread, View.ld_unit]
  obtain rfl : k = 0 := Subsingleton.elim _ _
  pointwise

end Cert.KernelIdeal.Hand
-- ==== Proof.Spec.lean ====
/-
  The mathematics both programs compute, over arrays indexed by natural numbers, and the lemmas that add one block of a sum.
-/
module

public import Idealize.ShloMosaic.Lib.Pointwise

@[expose] public section

noncomputable section

namespace Cert.Hand

open Idealize.ShloMosaic
open scoped BigOperators

/-- The arguments, indexed by natural numbers: token, feature, column, rank. -/
structure In where
  dy : ℕ → ℕ → EReal
  xc : ℕ → ℕ → EReal
  xs : ℕ → ℕ → EReal
  v : ℕ → ℕ → EReal
  a : ℕ → ℕ → EReal
  b : ℕ → ℕ → EReal
  mg : ℕ → EReal
  nm : ℕ → EReal

namespace In
variable (I : In)

/-- The scaled gradient. -/
def p (n o : ℕ) : EReal := I.dy n o * Ideal.div (I.mg o) (I.nm o)
/-- The dequantised activations. -/
def xh (n k : ℕ) : EReal := I.xc n k * I.xs n (k / 32)
/-- The rank-16 images. -/
def ht (q n m : ℕ) : EReal := ∑ o ∈ Finset.range m, I.b q o * I.p n o
def xat (q n : ℕ) : EReal := ∑ k ∈ Finset.range 3584, I.a k q * I.xh n k
/-- The input gradient, over the first `m` columns. -/
def dx (m n k : ℕ) : EReal := ∑ o ∈ Finset.range m, I.p n o * I.v k o
/-- The gradients of A and B, over the first `m` tokens. -/
def da (m q k : ℕ) : EReal := ∑ n ∈ Finset.range m, I.ht q n 18944 * I.xh n k
def db (m q o : ℕ) : EReal := ∑ n ∈ Finset.range m, I.xat q n * I.p n o
/-- One token's term of the magnitude gradient, before the division. -/
def dmt (n o : ℕ) : EReal := I.dy n o * ∑ k ∈ Finset.range 3584, I.xh n k * I.v k o
/-- The magnitude gradient, divided token tile by token tile, over the first `m` tiles. -/
def dm (m o : ℕ) : EReal := ∑ i ∈ Finset.range m, Ideal.div (∑ r ∈ Finset.range 1024, I.dmt (1024 * i + r) o) (I.nm o)

end In

/-- A sum over a range, one block longer. -/
theorem sum_block (f : ℕ → EReal) (n m : ℕ) (g : Fin m → EReal) (h : ∀ k : Fin m, g k = f (n + k.val)) :
    (∑ x ∈ Finset.range n, f x) + ∑ k : Fin m, g k = ∑ x ∈ Finset.range (n + m), f x := by
  rw [Finset.sum_range_add, Finset.sum_range (n := m)]
  exact congrArg _ (Finset.sum_congr rfl fun k _ => h k)

/-- A sum over a finite type read as one over a range. -/
theorem sum_fin (f : ℕ → EReal) (m : ℕ) (g : Fin m → EReal) (h : ∀ k : Fin m, g k = f k.val) :
    ∑ k : Fin m, g k = ∑ x ∈ Finset.range m, f x := by
  rw [Finset.sum_range]
  exact Finset.sum_congr rfl fun k _ => h k

end Cert.Hand
-- ==== Proof.KInv.lean ====
/-
  One grid step of the main kernel in terms of the mathematics: what each running buffer holds after a point, given what it held before.
-/
module

public import proofs.«01_k».proof.Proof.KStep
public import proofs.«01_k».proof.Proof.Spec

@[expose] public section

set_option maxRecDepth 16384

noncomputable section

namespace Cert.KernelIdeal.Hand

open Idealize.ShloMosaic Idealize.ShloMosaic.Pointwise
open Cert.KernelIdeal Cert.KernelIdeal.Gen Cert.Hand
open scoped BigOperators

/-- The input blocks at point `t`: token tile `t / 37`, column tile `t % 37`. -/
structure Tile (I : In) (t : ℕ) (x0 : Vec Ideal S1024x512 .bf16) (x1 : Vec Ideal S1024x3584 .fp8e4m3) (x2 : Vec Ideal S1024x128 .f32) (x3 : Vec Ideal S1x3584x512 .bf16)
    (x4 : Vec Ideal S16x3584 .bf16) (x5 : Vec Ideal S16x512 .bf16) (x6 x7 : Vec Ideal S1x512 .f32) : Prop where
  h0 : ∀ (r : Fin 1024) (o : Fin 512), x0 (ix2 r o) = I.dy (1024 * (t / 37) + r.val) (512 * (t % 37) + o.val)
  h1 : ∀ (r : Fin 1024) (k : Fin 3584), x1 (ix2 r k) = I.xc (1024 * (t / 37) + r.val) k.val
  h2 : ∀ (r : Fin 1024) (k : Fin 128), k.val < 112 → x2 (ix2 r k) = I.xs (1024 * (t / 37) + r.val) k.val
  h3 : ∀ (k : Fin 3584) (o : Fin 512), x3 (ix3 0 k o) = I.v k.val (512 * (t % 37) + o.val)
  h4 : ∀ (q : Fin 16) (k : Fin 3584), x4 (ix2 q k) = I.a k.val q.val
  h5 : ∀ (q : Fin 16) (o : Fin 512), x5 (ix2 q o) = I.b q.val (512 * (t % 37) + o.val)
  h6 : ∀ o : Fin 512, x6 (ix2 0 o) = I.mg (512 * (t % 37) + o.val)
  h7 : ∀ o : Fin 512, x7 (ix2 0 o) = I.nm (512 * (t % 37) + o.val)

/-- What a buffer of the activations' tile holds. -/
def IsXh (I : In) (i : ℕ) (xh : Vec Ideal S1024x3584 .bf16) : Prop := ∀ (r : Fin 1024) (k : Fin 3584), xh (ix2 r k) = I.xh (1024 * i + r.val) k.val
def IsAcc (I : In) (i j : ℕ) (a : S1024x3584.Idx → EReal) : Prop := ∀ (r : Fin 1024) (k : Fin 3584), a (ix2 r k) = I.dx (512 * j) (1024 * i + r.val) k.val
def IsXat (I : In) (i : ℕ) (a : S16x1024.Idx → EReal) : Prop := ∀ (q : Fin 16) (r : Fin 1024), a (ix2 q r) = I.xat q.val (1024 * i + r.val)
def IsHt (I : In) (i j : ℕ) (a : S16x1024.Idx → EReal) : Prop := ∀ (q : Fin 16) (r : Fin 1024), a (ix2 q r) = I.ht q.val (1024 * i + r.val) (512 * j)
def IsDa (I : In) (i : ℕ) (a : S16x3584.Idx → EReal) : Prop := ∀ (q : Fin 16) (k : Fin 3584), a (ix2 q k) = I.da (1024 * i) q.val k.val
/-- After the points before `t`: column tile `o / 512` has had `(t + 36 - o / 512) / 37` steps. -/
def IsDb (I : In) (t : ℕ) (a : S16x18944.Idx → EReal) : Prop := ∀ (q : Fin 16) (o : Fin 18944), a (ix2 q o) = I.db (1024 * ((t + 36 - o.val / 512) / 37)) q.val o.val
def IsDm (I : In) (t : ℕ) (a : S1x18944.Idx → EReal) : Prop := ∀ o : Fin 18944, a (ix2 0 o) = I.dm ((t + 36 - o.val / 512) / 37) o.val

variable {I : In} {t : ℕ} {x0 : Vec Ideal S1024x512 .bf16} {x1 : Vec Ideal S1024x3584 .fp8e4m3} {x2 : Vec Ideal S1024x128 .f32} {x3 : Vec Ideal S1x3584x512 .bf16}
    {x4 : Vec Ideal S16x3584 .bf16} {x5 : Vec Ideal S16x512 .bf16} {x6 x7 : Vec Ideal S1x512 .f32}

theorem Tile.p (T : Tile I t x0 x1 x2 x3 x4 x5 x6 x7) (r : Fin 1024) (o : Fin 512) :
    PT x0 x6 x7 (ix2 r o) = I.p (1024 * (t / 37) + r.val) (512 * (t % 37) + o.val) := by
  refine (pay60_apply x0 x6 x7 r o).trans ?_
  rw [T.h0, T.h6, T.h7]; rfl

theorem Tile.xh (T : Tile I t x0 x1 x2 x3 x4 x5 x6 x7) : IsXh I (t / 37) (XH x1 x2) := fun r k => by
  show x1 (ix2 r k) * x2 (ix2 r ⟨k.val / 32, _⟩) = _
  rw [T.h1, T.h2 _ _ (by show k.val / 32 < 112; omega)]; rfl

theorem Tile.acc (T : Tile I t x0 x1 x2 x3 x4 x5 x6 x7) {a : S1024x3584.Idx → EReal} (h : IsAcc I (t / 37) (t % 37) a) :
    IsAcc I (t / 37) (t % 37 + 1) (accG (PT x0 x6 x7) a x3) := fun r k => by
  show a (ix2 r k) + ∑ o : Fin 512, PT x0 x6 x7 (ix2 r o) * x3 (ix3 0 k o) = _
  rw [h r k]
  unfold In.dx
  exact sum_block _ _ _ _ (fun o => by rw [T.p, T.h3])

theorem acc_zero (i : ℕ) : IsAcc I i 0 (fun _ => 0) := fun _ _ => rfl
theorem ht_zero (i : ℕ) : IsHt I i 0 (fun _ => 0) := fun _ _ => rfl
theorem da_zero : IsDa I 0 (fun _ => 0) := fun _ _ => rfl
theorem db_zero : IsDb I 0 (fun _ => 0) := fun _ o => by
  rw [show (0 + 36 - o.val / 512) / 37 = 0 from by omega]; rfl
theorem dm_zero : IsDm I 0 (fun _ => 0) := fun o => by
  rw [show (0 + 36 - o.val / 512) / 37 = 0 from by omega]; rfl

theorem Tile.ht (T : Tile I t x0 x1 x2 x3 x4 x5 x6 x7) {a : S16x1024.Idx → EReal} (h : IsHt I (t / 37) (t % 37) a) :
    IsHt I (t / 37) (t % 37 + 1) (htG (PT x0 x6 x7) a x5) := fun q r => by
  show a (ix2 q r) + ∑ o : Fin 512, x5 (ix2 q o) * PT x0 x6 x7 (ix2 r o) = _
  rw [h q r]
  unfold In.ht
  exact sum_block _ _ _ _ (fun o => by rw [T.p, T.h5])

theorem Tile.xat (T : Tile I t x0 x1 x2 x3 x4 x5 x6 x7) {xh : Vec Ideal S1024x3584 .bf16} (h : IsXh I (t / 37) xh) :
    IsXat I (t / 37) (xatG x4 xh) := fun q r => by
  show ∑ k : Fin 3584, x4 (ix2 q k) * xh (ix2 r k) = _
  unfold In.xat
  exact sum_fin _ _ _ (fun k => by rw [T.h4, h])

theorem da_step {i : ℕ} {a : S16x3584.Idx → EReal} {g : S16x1024.Idx → EReal} {xh : Vec Ideal S1024x3584 .bf16} (h : IsDa I i a) (hg : IsHt I i 37 g) (hx : IsXh I i xh) :
    IsDa I (i + 1) (daG a g xh) := fun q k => by
  show a (ix2 q k) + ∑ r : Fin 1024, g (ix2 q r) * xh (ix2 r k) = _
  rw [h q k]
  unfold In.da
  exact sum_block _ _ _ _ (fun r => by rw [hg, hx])

theorem Tile.db (T : Tile I t x0 x1 x2 x3 x4 x5 x6 x7) {a : S16x18944.Idx → EReal} {g : S16x1024.Idx → EReal} (h : IsDb I t a) (hg : IsXat I (t / 37) g) :
    IsDb I (t + 1) (dbG (t % 37) (PT x0 x6 x7) a g) := fun q o => by
  by_cases ho : 512 * (t % 37) ≤ o.val ∧ o.val < 512 * (t % 37) + 512
  · rw [dbG_in _ _ _ _ _ _ ho.1 ho.2, h q o, show (t + 1 + 36 - o.val / 512) / 37 = t / 37 + 1 from by omega,
      show (t + 36 - o.val / 512) / 37 = t / 37 from by omega]
    unfold In.db
    refine sum_block _ _ _ _ (fun r => ?_)
    rw [hg, T.p]
    exact congrArg (fun x => I.xat q.val (1024 * (t / 37) + r.val) * I.p (1024 * (t / 37) + r.val) x)
      (show 512 * (t % 37) + (o.val - 512 * (t % 37)) = o.val by omega)
  · rw [dbG_out _ _ _ _ _ _ ho, h q o, show (t + 1 + 36 - o.val / 512) / 37 = (t + 36 - o.val / 512) / 37 from by omega]

theorem Tile.dm (T : Tile I t x0 x1 x2 x3 x4 x5 x6 x7) {a : S1x18944.Idx → EReal} {xh : Vec Ideal S1024x3584 .bf16} (h : IsDm I t a) (hx : IsXh I (t / 37) xh) :
    IsDm I (t + 1) (dmG (t % 37) x0 a xh x3 x7) := fun o => by
  by_cases ho : 512 * (t % 37) ≤ o.val ∧ o.val < 512 * (t % 37) + 512
  · have e : 512 * (t % 37) + (o.val - 512 * (t % 37)) = o.val := by omega
    rw [dmG_in _ _ _ _ _ _ _ ho.1 ho.2, h o, show (t + 1 + 36 - o.val / 512) / 37 = t / 37 + 1 from by omega,
      show (t + 36 - o.val / 512) / 37 = t / 37 from by omega]
    unfold In.dm
    rw [Finset.sum_range_succ, T.h7]
    refine congrArg _ (congrArg₂ Ideal.div (sum_fin _ _ _ fun r => ?_) (congrArg I.nm e))
    rw [T.h0]
    unfold In.dmt
    refine congrArg₂ (fun x y : EReal => x * y) (congrArg (I.dy _) e) (sum_fin _ _ _ fun k => ?_)
    rw [hx, T.h3]
    exact congrArg (fun x => I.xh (1024 * (t / 37) + r.val) k.val * I.v k.val x) e
  · rw [dmG_out _ _ _ _ _ _ _ ho, h o, show (t + 1 + 36 - o.val / 512) / 37 = (t + 36 - o.val / 512) / 37 from by omega]

end Cert.KernelIdeal.Hand
-- ==== Proof.Args.lean ====
/-
  The arguments of the programs as arrays indexed by natural numbers: a token number stands for its batch row and its
  position, a column number for its tile and its place in the tile.
-/
module

public import proofs.«01_k».proof.Proof.Spec

@[expose] public section

noncomputable section

namespace Cert.Hand

open Idealize.ShloMosaic Idealize.ShloMosaic.Pointwise

/-- An array read at natural numbers, zero outside. -/
def rd1 {a : ℕ} (f : (⟨1, ![a]⟩ : Shape).Idx → EReal) (i : ℕ) : EReal := if h : i < a then f (ix1 ⟨i, h⟩) else 0
def rd2 {a b : ℕ} (f : (⟨2, ![a, b]⟩ : Shape).Idx → EReal) (i j : ℕ) : EReal :=
  if h : i < a ∧ j < b then f (ix2 ⟨i, h.1⟩ ⟨j, h.2⟩) else 0
def rd3 {a b c : ℕ} (f : (⟨3, ![a, b, c]⟩ : Shape).Idx → EReal) (i j k : ℕ) : EReal :=
  if h : i < a ∧ j < b ∧ k < c then f (ix3 ⟨i, h.1⟩ ⟨j, h.2.1⟩ ⟨k, h.2.2⟩) else 0

theorem rd1_eq {a : ℕ} (f : (⟨1, ![a]⟩ : Shape).Idx → EReal) {i : ℕ} (i' : Fin a) (hi : i'.val = i) : f (ix1 i') = rd1 f i := by
  subst hi; unfold rd1; rw [dif_pos i'.isLt]
theorem rd2_eq {a b : ℕ} (f : (⟨2, ![a, b]⟩ : Shape).Idx → EReal) {i j : ℕ} (i' : Fin a) (j' : Fin b) (hi : i'.val = i) (hj : j'.val = j) :
    f (ix2 i' j') = rd2 f i j := by
  subst hi hj; unfold rd2; rw [dif_pos ⟨i'.isLt, j'.isLt⟩]
theorem rd3_eq {a b c : ℕ} (f : (⟨3, ![a, b, c]⟩ : Shape).Idx → EReal) {i j k : ℕ} (i' : Fin a) (j' : Fin b) (k' : Fin c)
    (hi : i'.val = i) (hj : j'.val = j) (hk : k'.val = k) : f (ix3 i' j' k') = rd3 f i j k := by
  subst hi hj hk; unfold rd3; rw [dif_pos ⟨i'.isLt, j'.isLt, k'.isLt⟩]

/-- The eight arguments. -/
def inp (a0 : (⟨3, ![12, 1024, 18944]⟩ : Shape).Idx → EReal) (a1 : (⟨3, ![12, 1024, 3584]⟩ : Shape).Idx → EReal)
    (a2 : (⟨3, ![12, 1024, 112]⟩ : Shape).Idx → EReal) (a3 : (⟨3, ![37, 3584, 512]⟩ : Shape).Idx → EReal)
    (a4 : (⟨2, ![3584, 16]⟩ : Shape).Idx → EReal) (a5 : (⟨2, ![16, 18944]⟩ : Shape).Idx → EReal)
    (a6 a7 : (⟨1, ![18944]⟩ : Shape).Idx → EReal) : In where
  dy n o := rd3 a0 (n / 1024) (n % 1024) o
  xc n k := rd3 a1 (n / 1024) (n % 1024) k
  xs n g := rd3 a2 (n / 1024) (n % 1024) g
  v k o := rd3 a3 (o / 512) k (o % 512)
  a k q := rd2 a4 k q
  b q o := rd2 a5 q o
  mg o := rd1 a6 o
  nm o := rd1 a7 o

end Cert.Hand
-- ==== Proof.KCase.lean ====
/-
  What each of the five cases of a grid step leaves in each running buffer and each output block, as the formulas of KStep.
-/
module

public import proofs.«01_k».proof.Proof.KStep

@[expose] public section

set_option maxRecDepth 16384

noncomputable section

namespace Cert.KernelIdeal.Hand

open Idealize.ShloMosaic Idealize.ShloMosaic.TcCoe Idealize.SL.Sem Idealize.ShloMosaic.Tactic
open Idealize.ShloMosaic.Pointwise
open Cert.KernelIdeal Cert.KernelIdeal.Gen
open scoped BigOperators

/-- A whole load of stores whose latest covers the buffer reads that store. -/
theorem cov_whole {S : Shape} {e : EltTy} (v : View sig .tc .vmem S e) (w : S.Idx → Elt Ideal e) (L : List (View.Piece (Elt Ideal) S e)) {off off' : Fin S.rank → Nat}
    (h : ∀ d, off d = 0) (h' : ∀ d, off' d = 0) (inb : ∀ d, off d + S.size d ≤ S.size d) (inb' : ∀ d, off' d + S.size d ≤ S.size d) :
    v.readCov ((⟨Rect.unit off (no_index S.size) inb, w⟩ : View.Piece (Elt Ideal) S e) :: L) (Rect.unit off' (no_index S.size) inb').toLoadRect = w := by
  rw [View.readCov_eq_canon']
  funext j
  rw [View.canon_cons_unit_zero (S := S) (funext h)]
  refine congrArg w (funext fun d => Fin.ext ?_)
  show off' d + 1 * (j d).val = (j d).val
  rw [h' d]; omega

/-- A whole load of stores that are blocks of one array and cover it reads that array. -/
theorem cov_pieces {S : Shape} {e : EltTy} (v : View sig .tc .vmem S e) (G : S.Idx → Elt Ideal e) (L : List (View.Piece (Elt Ideal) S e)) {off : Fin S.rank → Nat}
    (h : ∀ d, off d = 0) (inb : ∀ d, off d + S.size d ≤ S.size d) (hp : ∀ p ∈ L, ∀ x : p.1.shape.Idx, p.2 x = G (p.1.emb x)) (hc : ∀ y, ∃ p ∈ L, y ∈ p.1.set) :
    v.readCov L (Rect.unit off (no_index S.size) inb).toLoadRect = G := by
  rw [View.readCov_eq_canon']
  funext j
  rw [View.canon_apply_of_pieces G L hp _ (hc _)]
  refine congrArg G (funext fun d => Fin.ext ?_)
  show off d + 1 * (j d).val = (j d).val
  rw [h d]; omega

/-- Stores whose latest covers the buffer leave that store. -/
theorem st_whole {S : Shape} {e : EltTy} (v : View sig .tc .vmem S e) (f : v.ty.Contents (Elt Ideal)) (w : S.Idx → Elt Ideal e) (L : List (View.Piece (Elt Ideal) S e)) {off : Fin S.rank → Nat}
    (h : ∀ d, off d = 0) (inb : ∀ d, off d + S.size d ≤ S.size d) :
    v.read (Elt Ideal) (v.writes (Elt Ideal) f ((⟨Rect.unit off (no_index S.size) inb, w⟩ : View.Piece (Elt Ideal) S e) :: L)) = w := by
  funext y
  exact View.read_writes_cons_unit_of_mem v f inb w L y y rfl (fun d => by rw [h d]; omega)

/-- A load of a chunk of a zeroed buffer that other chunks were stored over. -/
theorem hz_skip {S : Shape} {e : EltTy} (v : View sig .tc .vmem S .f32) (r : Rect S) (w : r.shape.Idx → Elt Ideal .f32) (L : List (View.Piece (Elt Ideal) S .f32)) (B : LoadRect S)
    (h : LoadRect.disj r B = true) (hz : ∀ j, v.readCov L B j = (0 : EReal)) : ∀ j, v.readCov ((⟨r, w⟩ : View.Piece (Elt Ideal) S .f32) :: L) B j = (0 : EReal) := by
  rw [View.readCov_skip v r w L B h]
  exact hz

theorem hz_fill (v : View sig .tc .vmem S1024x3584 .f32) (inb : ∀ d, (![0, 0] : Fin 2 → Nat) d + S1024x3584.size d ≤ S1024x3584.size d) (B : LoadRect S1024x3584) :
    ∀ j, v.readCov [(⟨Rect.unit (s := S1024x3584) ![0, 0] S1024x3584.size inb, k0_pay50 (F := Ideal)⟩ : View.Piece (Elt Ideal) S1024x3584 .f32)] B j = (0 : EReal) := by
  intro j
  rw [View.readCov_eq_canon', View.canon_cons_unit_zero (S := S1024x3584) (funext z2), pay50_eq]

theorem loop_cover (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (h2 : k0_cond2 i = 1#1)
    (x1 : Vec Ideal S1024x3584 .fp8e4m3) (x2 : Vec Ideal S1024x128 .f32) (y : S1024x3584.Idx) :
    ∃ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 (harg3.unread x1) (harg4.unread x2) (Scf.trips k0_t1_loop.lb k0_t1_loop.ub k0_t1_loop.st), y ∈ p.1.set :=
  View.cover_of_tiledL (s := S1024x3584) (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 (harg3.unread x1) (harg4.unread x2) (Scf.trips k0_t1_loop.lb k0_t1_loop.ub k0_t1_loop.st)) S64x128.size (by sl_kernel_rfl) y

theorem xh_load (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (h2 : k0_cond2 i = 1#1)
    (x1 : Vec Ideal S1024x3584 .fp8e4m3) (x2 : Vec Ideal S1024x128 .f32) (inb : ∀ d, (![0, 0] : Fin 2 → Nat) d + S1024x3584.size d ≤ S1024x3584.size d) :
    arg14.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 (harg3.unread x1) (harg4.unread x2) (Scf.trips k0_t1_loop.lb k0_t1_loop.ub k0_t1_loop.st)) (Rect.unit (s := S1024x3584) ![0, 0] S1024x3584.size inb).toLoadRect = XH x1 x2 :=
  cov_pieces (S := S1024x3584) arg14.view (XH x1 x2) _ z2 inb (loop_pieces Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 x1 x2 _ (by decide)) (loop_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 x1 x2)

/-- The seven column chunks cover the accumulator. -/
theorem chunks_cover (w0 w1 w2 w3 w4 w5 w6 : S1024x512.Idx → Elt Ideal .f32)
    (i0 : ∀ d, (![0, 0] : Fin 2 → Nat) d + S1024x512.size d ≤ S1024x3584.size d)
    (i1 : ∀ d, (![0, 512] : Fin 2 → Nat) d + S1024x512.size d ≤ S1024x3584.size d)
    (i2 : ∀ d, (![0, 1024] : Fin 2 → Nat) d + S1024x512.size d ≤ S1024x3584.size d)
    (i3 : ∀ d, (![0, 1536] : Fin 2 → Nat) d + S1024x512.size d ≤ S1024x3584.size d)
    (i4 : ∀ d, (![0, 2048] : Fin 2 → Nat) d + S1024x512.size d ≤ S1024x3584.size d)
    (i5 : ∀ d, (![0, 2560] : Fin 2 → Nat) d + S1024x512.size d ≤ S1024x3584.size d)
    (i6 : ∀ d, (![0, 3072] : Fin 2 → Nat) d + S1024x512.size d ≤ S1024x3584.size d) (y : S1024x3584.Idx) :
    ∃ p ∈ [(⟨Rect.unit (s := S1024x3584) ![0, 3072] S1024x512.size i6, w6⟩ : View.Piece (Elt Ideal) S1024x3584 .f32), (⟨Rect.unit (s := S1024x3584) ![0, 2560] S1024x512.size i5, w5⟩ : View.Piece (Elt Ideal) S1024x3584 .f32), (⟨Rect.unit (s := S1024x3584) ![0, 2048] S1024x512.size i4, w4⟩ : View.Piece (Elt Ideal) S1024x3584 .f32), (⟨Rect.unit (s := S1024x3584) ![0, 1536] S1024x512.size i3, w3⟩ : View.Piece (Elt Ideal) S1024x3584 .f32), (⟨Rect.unit (s := S1024x3584) ![0, 1024] S1024x512.size i2, w2⟩ : View.Piece (Elt Ideal) S1024x3584 .f32), (⟨Rect.unit (s := S1024x3584) ![0, 512] S1024x512.size i1, w1⟩ : View.Piece (Elt Ideal) S1024x3584 .f32), (⟨Rect.unit (s := S1024x3584) ![0, 0] S1024x512.size i0, w0⟩ : View.Piece (Elt Ideal) S1024x3584 .f32)], y ∈ p.1.set :=
  View.cover_of_tiledL (s := S1024x3584) [(⟨Rect.unit (s := S1024x3584) ![0, 3072] S1024x512.size i6, w6⟩ : View.Piece (Elt Ideal) S1024x3584 .f32), (⟨Rect.unit (s := S1024x3584) ![0, 2560] S1024x512.size i5, w5⟩ : View.Piece (Elt Ideal) S1024x3584 .f32), (⟨Rect.unit (s := S1024x3584) ![0, 2048] S1024x512.size i4, w4⟩ : View.Piece (Elt Ideal) S1024x3584 .f32), (⟨Rect.unit (s := S1024x3584) ![0, 1536] S1024x512.size i3, w3⟩ : View.Piece (Elt Ideal) S1024x3584 .f32), (⟨Rect.unit (s := S1024x3584) ![0, 1024] S1024x512.size i2, w2⟩ : View.Piece (Elt Ideal) S1024x3584 .f32), (⟨Rect.unit (s := S1024x3584) ![0, 512] S1024x512.size i1, w1⟩ : View.Piece (Elt Ideal) S1024x3584 .f32), (⟨Rect.unit (s := S1024x3584) ![0, 0] S1024x512.size i0, w0⟩ : View.Piece (Elt Ideal) S1024x3584 .f32)] S1024x512.size (by sl_kernel_rfl) y

/-- A load of a whole buffer. -/
theorem whole_load {S : Shape} {e : EltTy} (v : View sig .tc .vmem S e) (f : v.ty.Contents (Elt Ideal)) {off : Fin S.rank → Nat} (h : ∀ d, off d = 0)
    (inb : ∀ d, off d + S.size d ≤ S.size d) : View.readAt (Elt Ideal) v (Rect.unit off S.size inb).toLoadRect f = v.read (Elt Ideal) f := by
  rw [View.readAt_eq_ld, View.ld_unit_zero (S := S) (funext h)]

theorem sout0_A_0_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 = (XH x1 x2) := by
  unfold sout0_A_0
  funext y
  refine (View.read_writes_junk_apply_eq_canon ..).trans ?_
  refine View.canon_apply_of_pieces (Val := Elt Ideal) (e := .bf16) (XH x1 x2) _ ?_ y (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 y)
  unfold kernelRun0_A
  dsimp only
  exact loop_pieces Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2 _ (by decide)

theorem sout0_A_2_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 = (xatG x4 (XH x1 x2)) := by
  unfold sout0_A_2 kernelRun0_A
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, xh_load c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2, cov_whole (S := S16x1024) _ _ _ z2 z2, cov_whole (S := S16x3584) _ _ _ z2 z2]
  refine (st_whole (S := S16x1024) (e := .bf16) _ _ _ _ z2 _).trans ?_
  exact xat_eq _ _

theorem sout0_A_1_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 = (accG (PT x0 x6 x7) (fun _ => 0) x3) := by
  unfold sout0_A_1 kernelRun0_A
  dsimp only
  try sl_unfold_words
  simp only [ra_whole (S := S1024x512) harg2 x0 z2, ra_whole (S := S1x512) harg8 x6 z2, ra_whole (S := S1x512) harg9 x7 z2]
  funext y
  refine (View.read_writes_junk_apply_eq_canon ..).trans ?_
  exact View.canon_append_of_piecesOf (Val := Elt Ideal) (e := .f32) (accG (PT x0 x6 x7) (fun _ => 0) x3) [_] [_, _, _, _, _, _, _] (by refine ⟨fun x => chunk_ok0 6 (by omega) harg5 (PT x0 x6 x7) x3 arg15.view _ _ (hz_skip (e := .f32) _ _ _ _ _ (by rfl) (hz_skip (e := .f32) _ _ _ _ _ (by rfl) (hz_skip (e := .f32) _ _ _ _ _ (by rfl) (hz_skip (e := .f32) _ _ _ _ _ (by rfl) (hz_skip (e := .f32) _ _ _ _ _ (by rfl) (hz_skip (e := .f32) _ _ _ _ _ (by rfl) (hz_fill _ _ _))))))) _ x, fun x => chunk_ok0 5 (by omega) harg5 (PT x0 x6 x7) x3 arg15.view _ _ (hz_skip (e := .f32) _ _ _ _ _ (by rfl) (hz_skip (e := .f32) _ _ _ _ _ (by rfl) (hz_skip (e := .f32) _ _ _ _ _ (by rfl) (hz_skip (e := .f32) _ _ _ _ _ (by rfl) (hz_skip (e := .f32) _ _ _ _ _ (by rfl) (hz_fill _ _ _)))))) _ x, fun x => chunk_ok0 4 (by omega) harg5 (PT x0 x6 x7) x3 arg15.view _ _ (hz_skip (e := .f32) _ _ _ _ _ (by rfl) (hz_skip (e := .f32) _ _ _ _ _ (by rfl) (hz_skip (e := .f32) _ _ _ _ _ (by rfl) (hz_skip (e := .f32) _ _ _ _ _ (by rfl) (hz_fill _ _ _))))) _ x, fun x => chunk_ok0 3 (by omega) harg5 (PT x0 x6 x7) x3 arg15.view _ _ (hz_skip (e := .f32) _ _ _ _ _ (by rfl) (hz_skip (e := .f32) _ _ _ _ _ (by rfl) (hz_skip (e := .f32) _ _ _ _ _ (by rfl) (hz_fill _ _ _)))) _ x, fun x => chunk_ok0 2 (by omega) harg5 (PT x0 x6 x7) x3 arg15.view _ _ (hz_skip (e := .f32) _ _ _ _ _ (by rfl) (hz_skip (e := .f32) _ _ _ _ _ (by rfl) (hz_fill _ _ _))) _ x, fun x => chunk_ok0 1 (by omega) harg5 (PT x0 x6 x7) x3 arg15.view _ _ (hz_skip (e := .f32) _ _ _ _ _ (by rfl) (hz_fill _ _ _)) _ x, fun x => chunk_ok0 0 (by omega) harg5 (PT x0 x6 x7) x3 arg15.view _ _ (hz_fill _ _ _) _ x, trivial⟩) y (chunks_cover _ _ _ _ _ _ _ _ _ _ _ _ _ _ y)

theorem sout0_A_3_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 = (htG (PT x0 x6 x7) (fun _ => 0) x5) := by
  unfold sout0_A_3 kernelRun0_A
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, xh_load c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2, cov_whole (S := S16x1024) _ _ _ z2 z2, cov_whole (S := S16x3584) _ _ _ z2 z2, pay51_eq]
  refine (st_whole (S := S16x1024) (e := .f32) _ _ _ _ z2 _).trans ?_
  exact ht_eq _ _ _

theorem sout0_A_4_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) :
    sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 = (fun _ => (0 : EReal)) := by
  unfold sout0_A_4 kernelRun0_A
  dsimp only
  try sl_unfold_words
  refine (st_whole (S := S16x3584) (e := .f32) _ _ _ _ z2 _).trans ?_
  exact pay55_eq

theorem sout0_A_5_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) :
    sout0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 = (dbG (i 1).val (PT x0 x6 x7) (fun _ => 0) (xatG x4 (XH x1 x2))) := by
  unfold sout0_A_5 kernelRun0_A
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, xh_load c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2, cov_whole (S := S16x1024) _ _ _ z2 z2, cov_whole (S := S16x3584) _ _ _ z2 z2, pay56_eq, xat_eq]
  exact db_store _ [_] (i 1).val (i 1).isLt _ _ _ _ (off31_eq i) _ _ (fun k o => congrFun (View.readCov_fill _ _ _ _ _ (h := z2)) _) (st_whole (S := S16x18944) (e := .f32) _ _ _ _ z2 _)

theorem out0_A_11_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 = (dmG (i 1).val x0 (fun _ => 0) (XH x1 x2) x3 x7) := by
  unfold out0_A_11 kernelRun0_A
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, xh_load c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2, cov_whole (S := S16x1024) _ _ _ z2 z2, cov_whole (S := S16x3584) _ _ _ z2 z2, pay57_eq]
  exact dm_store _ [_] (i 1).val (i 1).isLt _ _ _ _ _ _ (off30_eq i) _ _ (fun k o => congrFun (View.readCov_fill _ _ _ _ _ (h := z2)) _) (st_whole (S := S1x18944) (e := .f32) _ _ _ _ z2 _)

theorem sout0_B_1_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (accG (PT x0 x6 x7) xs1 x3) := by
  unfold sout0_B_1
  funext y
  refine (View.read_writes_junk_apply_eq_canon ..).trans ?_
  refine View.canon_apply_of_pieces (Val := Elt Ideal) (e := .f32) (accG (PT x0 x6 x7) xs1 x3) _ ?_ y (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 y)
  unfold kernelRun0_B
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2]
  exact View.PiecesOf.mem (Val := Elt Ideal) (s := S1024x3584) (e := .f32) (G := (accG (PT x0 x6 x7) xs1 x3)) (by refine ⟨fun x => chunk_ok 6 (by omega) harg15 harg5 (PT x0 x6 x7) xs1 x3 _ _ x, fun x => chunk_ok 5 (by omega) harg15 harg5 (PT x0 x6 x7) xs1 x3 _ _ x, fun x => chunk_ok 4 (by omega) harg15 harg5 (PT x0 x6 x7) xs1 x3 _ _ x, fun x => chunk_ok 3 (by omega) harg15 harg5 (PT x0 x6 x7) xs1 x3 _ _ x, fun x => chunk_ok 2 (by omega) harg15 harg5 (PT x0 x6 x7) xs1 x3 _ _ x, fun x => chunk_ok 1 (by omega) harg15 harg5 (PT x0 x6 x7) xs1 x3 _ _ x, fun x => chunk_ok 0 (by omega) harg15 harg5 (PT x0 x6 x7) xs1 x3 _ _ x, trivial⟩)

theorem sout0_B_3_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (htG (PT x0 x6 x7) xs3 x5) := by
  unfold sout0_B_3 kernelRun0_B
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2, pay51_eq]
  refine (st_whole (S := S16x1024) (e := .f32) _ _ _ _ z2 _).trans ?_
  exact ht_eq _ _ _

theorem sout0_B_5_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (dbG (i 1).val (PT x0 x6 x7) xs5 xs2) := by
  unfold sout0_B_5 kernelRun0_B
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2, xat_eq]
  exact db_store _ [] (i 1).val (i 1).isLt _ _ _ _ (off31_eq i) _ _ (fun k o => db_at harg19 xs5 (i 1).val (i 1).isLt _ (off31_eq i) _ k o) (harg19.read_unread xs5)

theorem out0_B_11_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (dmG (i 1).val x0 xo11 xs0 x3 x7) := by
  unfold out0_B_11 kernelRun0_B
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2]
  exact dm_store _ [] (i 1).val (i 1).isLt _ _ _ _ _ _ (off30_eq i) _ _ (fun k o => dm_at harg13 xo11 (i 1).val (i 1).isLt _ (off30_eq i) _ k o) (harg13.read_unread xo11)

theorem sout0_C_1_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (accG (PT x0 x6 x7) xs1 x3) := by
  unfold sout0_C_1
  funext y
  refine (View.read_writes_junk_apply_eq_canon ..).trans ?_
  refine View.canon_apply_of_pieces (Val := Elt Ideal) (e := .f32) (accG (PT x0 x6 x7) xs1 x3) _ ?_ y (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 y)
  unfold kernelRun0_C
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2]
  exact View.PiecesOf.mem (Val := Elt Ideal) (s := S1024x3584) (e := .f32) (G := (accG (PT x0 x6 x7) xs1 x3)) (by refine ⟨fun x => chunk_ok 6 (by omega) harg15 harg5 (PT x0 x6 x7) xs1 x3 _ _ x, fun x => chunk_ok 5 (by omega) harg15 harg5 (PT x0 x6 x7) xs1 x3 _ _ x, fun x => chunk_ok 4 (by omega) harg15 harg5 (PT x0 x6 x7) xs1 x3 _ _ x, fun x => chunk_ok 3 (by omega) harg15 harg5 (PT x0 x6 x7) xs1 x3 _ _ x, fun x => chunk_ok 2 (by omega) harg15 harg5 (PT x0 x6 x7) xs1 x3 _ _ x, fun x => chunk_ok 1 (by omega) harg15 harg5 (PT x0 x6 x7) xs1 x3 _ _ x, fun x => chunk_ok 0 (by omega) harg15 harg5 (PT x0 x6 x7) xs1 x3 _ _ x, trivial⟩)

theorem sout0_C_3_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (htG (PT x0 x6 x7) xs3 x5) := by
  unfold sout0_C_3 kernelRun0_C
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2, pay51_eq]
  refine (st_whole (S := S16x1024) (e := .f32) _ _ _ _ z2 _).trans ?_
  exact ht_eq _ _ _

theorem sout0_C_4_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_C_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (daG xs4 (htG (PT x0 x6 x7) xs3 x5) xs0) := by
  unfold sout0_C_4 kernelRun0_C
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, ra_whole (S := S16x3584) harg18 xs4 z2, cov_whole (S := S16x1024) _ _ _ z2 z2, cov_whole (S := S16x3584) _ _ _ z2 z2]
  refine (st_whole (S := S16x3584) (e := .f32) _ _ _ _ z2 _).trans ?_
  exact (da_eq _ _ _).trans (congrArg (fun t => daG xs4 t xs0) (ht_eq _ _ _))

theorem out0_C_8_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (accG (PT x0 x6 x7) xs1 x3) := by
  unfold out0_C_8 kernelRun0_C
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2]
  refine (st_whole (S := S1024x3584) (e := .bf16) _ _ _ _ z2 _).trans ?_
  refine (pay4_eq _).trans ?_
  exact cov_pieces (S := S1024x3584) (e := .f32) _ (accG (PT x0 x6 x7) xs1 x3) [_, _, _, _, _, _, _] z2 _ (View.PiecesOf.mem (Val := Elt Ideal) (s := S1024x3584) (e := .f32) (G := (accG (PT x0 x6 x7) xs1 x3)) (by refine ⟨fun x => chunk_ok 6 (by omega) harg15 harg5 (PT x0 x6 x7) xs1 x3 _ _ x, fun x => chunk_ok 5 (by omega) harg15 harg5 (PT x0 x6 x7) xs1 x3 _ _ x, fun x => chunk_ok 4 (by omega) harg15 harg5 (PT x0 x6 x7) xs1 x3 _ _ x, fun x => chunk_ok 3 (by omega) harg15 harg5 (PT x0 x6 x7) xs1 x3 _ _ x, fun x => chunk_ok 2 (by omega) harg15 harg5 (PT x0 x6 x7) xs1 x3 _ _ x, fun x => chunk_ok 1 (by omega) harg15 harg5 (PT x0 x6 x7) xs1 x3 _ _ x, fun x => chunk_ok 0 (by omega) harg15 harg5 (PT x0 x6 x7) xs1 x3 _ _ x, trivial⟩)) (chunks_cover _ _ _ _ _ _ _ _ _ _ _ _ _ _)

theorem sout0_C_5_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_C_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (dbG (i 1).val (PT x0 x6 x7) xs5 xs2) := by
  unfold sout0_C_5 kernelRun0_C
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2, xat_eq]
  exact db_store _ [] (i 1).val (i 1).isLt _ _ _ _ (off31_eq i) _ _ (fun k o => db_at harg19 xs5 (i 1).val (i 1).isLt _ (off31_eq i) _ k o) (harg19.read_unread xs5)

theorem out0_C_11_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (dmG (i 1).val x0 xo11 xs0 x3 x7) := by
  unfold out0_C_11 kernelRun0_C
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2]
  exact dm_store _ [] (i 1).val (i 1).isLt _ _ _ _ _ _ (off30_eq i) _ _ (fun k o => dm_at harg13 xo11 (i 1).val (i 1).isLt _ (off30_eq i) _ k o) (harg13.read_unread xo11)

theorem sout0_D_0_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs4 : Vec Ideal S16x3584 .f32) (xs5 : Vec Ideal S16x18944 .f32) :
    sout0_D_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs4 xs5 = (XH x1 x2) := by
  unfold sout0_D_0
  funext y
  refine (View.read_writes_junk_apply_eq_canon ..).trans ?_
  refine View.canon_apply_of_pieces (Val := Elt Ideal) (e := .bf16) (XH x1 x2) _ ?_ y (scover0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs4 xs5 y)
  unfold kernelRun0_D
  dsimp only
  exact loop_pieces Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2 _ (by decide)

theorem sout0_D_2_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs4 : Vec Ideal S16x3584 .f32) (xs5 : Vec Ideal S16x18944 .f32) :
    sout0_D_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs4 xs5 = (xatG x4 (XH x1 x2)) := by
  unfold sout0_D_2 kernelRun0_D
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, xh_load c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2, cov_whole (S := S16x1024) _ _ _ z2 z2, cov_whole (S := S16x3584) _ _ _ z2 z2]
  refine (st_whole (S := S16x1024) (e := .bf16) _ _ _ _ z2 _).trans ?_
  exact xat_eq _ _

theorem sout0_D_1_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs4 : Vec Ideal S16x3584 .f32) (xs5 : Vec Ideal S16x18944 .f32) :
    sout0_D_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs4 xs5 = (accG (PT x0 x6 x7) (fun _ => 0) x3) := by
  unfold sout0_D_1 kernelRun0_D
  dsimp only
  try sl_unfold_words
  simp only [ra_whole (S := S1024x512) harg2 x0 z2, ra_whole (S := S1x512) harg8 x6 z2, ra_whole (S := S1x512) harg9 x7 z2]
  funext y
  refine (View.read_writes_junk_apply_eq_canon ..).trans ?_
  exact View.canon_append_of_piecesOf (Val := Elt Ideal) (e := .f32) (accG (PT x0 x6 x7) (fun _ => 0) x3) [_] [_, _, _, _, _, _, _] (by refine ⟨fun x => chunk_ok0 6 (by omega) harg5 (PT x0 x6 x7) x3 arg15.view _ _ (hz_skip (e := .f32) _ _ _ _ _ (by rfl) (hz_skip (e := .f32) _ _ _ _ _ (by rfl) (hz_skip (e := .f32) _ _ _ _ _ (by rfl) (hz_skip (e := .f32) _ _ _ _ _ (by rfl) (hz_skip (e := .f32) _ _ _ _ _ (by rfl) (hz_skip (e := .f32) _ _ _ _ _ (by rfl) (hz_fill _ _ _))))))) _ x, fun x => chunk_ok0 5 (by omega) harg5 (PT x0 x6 x7) x3 arg15.view _ _ (hz_skip (e := .f32) _ _ _ _ _ (by rfl) (hz_skip (e := .f32) _ _ _ _ _ (by rfl) (hz_skip (e := .f32) _ _ _ _ _ (by rfl) (hz_skip (e := .f32) _ _ _ _ _ (by rfl) (hz_skip (e := .f32) _ _ _ _ _ (by rfl) (hz_fill _ _ _)))))) _ x, fun x => chunk_ok0 4 (by omega) harg5 (PT x0 x6 x7) x3 arg15.view _ _ (hz_skip (e := .f32) _ _ _ _ _ (by rfl) (hz_skip (e := .f32) _ _ _ _ _ (by rfl) (hz_skip (e := .f32) _ _ _ _ _ (by rfl) (hz_skip (e := .f32) _ _ _ _ _ (by rfl) (hz_fill _ _ _))))) _ x, fun x => chunk_ok0 3 (by omega) harg5 (PT x0 x6 x7) x3 arg15.view _ _ (hz_skip (e := .f32) _ _ _ _ _ (by rfl) (hz_skip (e := .f32) _ _ _ _ _ (by rfl) (hz_skip (e := .f32) _ _ _ _ _ (by rfl) (hz_fill _ _ _)))) _ x, fun x => chunk_ok0 2 (by omega) harg5 (PT x0 x6 x7) x3 arg15.view _ _ (hz_skip (e := .f32) _ _ _ _ _ (by rfl) (hz_skip (e := .f32) _ _ _ _ _ (by rfl) (hz_fill _ _ _))) _ x, fun x => chunk_ok0 1 (by omega) harg5 (PT x0 x6 x7) x3 arg15.view _ _ (hz_skip (e := .f32) _ _ _ _ _ (by rfl) (hz_fill _ _ _)) _ x, fun x => chunk_ok0 0 (by omega) harg5 (PT x0 x6 x7) x3 arg15.view _ _ (hz_fill _ _ _) _ x, trivial⟩) y (chunks_cover _ _ _ _ _ _ _ _ _ _ _ _ _ _ y)

theorem sout0_D_3_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs4 : Vec Ideal S16x3584 .f32) (xs5 : Vec Ideal S16x18944 .f32) :
    sout0_D_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs4 xs5 = (htG (PT x0 x6 x7) (fun _ => 0) x5) := by
  unfold sout0_D_3 kernelRun0_D
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, xh_load c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2, cov_whole (S := S16x1024) _ _ _ z2 z2, cov_whole (S := S16x3584) _ _ _ z2 z2, pay51_eq]
  refine (st_whole (S := S16x1024) (e := .f32) _ _ _ _ z2 _).trans ?_
  exact ht_eq _ _ _

theorem sout0_D_5_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs4 : Vec Ideal S16x3584 .f32) (xs5 : Vec Ideal S16x18944 .f32) :
    sout0_D_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs4 xs5 = (dbG (i 1).val (PT x0 x6 x7) xs5 (xatG x4 (XH x1 x2))) := by
  unfold sout0_D_5 kernelRun0_D
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, xh_load c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2, cov_whole (S := S16x1024) _ _ _ z2 z2, cov_whole (S := S16x3584) _ _ _ z2 z2, xat_eq]
  exact db_store _ [] (i 1).val (i 1).isLt _ _ _ _ (off31_eq i) _ _ (fun k o => db_at harg19 xs5 (i 1).val (i 1).isLt _ (off31_eq i) _ k o) (harg19.read_unread xs5)

theorem out0_D_11_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : cond0_1 i) (hc2 : ¬cond0_2 i) (hc3 : ¬cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs4 : Vec Ideal S16x3584 .f32) (xs5 : Vec Ideal S16x18944 .f32) :
    out0_D_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs4 xs5 = (dmG (i 1).val x0 xo11 (XH x1 x2) x3 x7) := by
  unfold out0_D_11 kernelRun0_D
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, xh_load c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2, cov_whole (S := S16x1024) _ _ _ z2 z2, cov_whole (S := S16x3584) _ _ _ z2 z2]
  exact dm_store _ [] (i 1).val (i 1).isLt _ _ _ _ _ _ (off30_eq i) _ _ (fun k o => dm_at harg13 xo11 (i 1).val (i 1).isLt _ (off30_eq i) _ k o) (harg13.read_unread xo11)

theorem sout0_E_1_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_E_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (accG (PT x0 x6 x7) xs1 x3) := by
  unfold sout0_E_1
  funext y
  refine (View.read_writes_junk_apply_eq_canon ..).trans ?_
  refine View.canon_apply_of_pieces (Val := Elt Ideal) (e := .f32) (accG (PT x0 x6 x7) xs1 x3) _ ?_ y (scover0_E_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 y)
  unfold kernelRun0_E
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2]
  exact View.PiecesOf.mem (Val := Elt Ideal) (s := S1024x3584) (e := .f32) (G := (accG (PT x0 x6 x7) xs1 x3)) (by refine ⟨fun x => chunk_ok 6 (by omega) harg15 harg5 (PT x0 x6 x7) xs1 x3 _ _ x, fun x => chunk_ok 5 (by omega) harg15 harg5 (PT x0 x6 x7) xs1 x3 _ _ x, fun x => chunk_ok 4 (by omega) harg15 harg5 (PT x0 x6 x7) xs1 x3 _ _ x, fun x => chunk_ok 3 (by omega) harg15 harg5 (PT x0 x6 x7) xs1 x3 _ _ x, fun x => chunk_ok 2 (by omega) harg15 harg5 (PT x0 x6 x7) xs1 x3 _ _ x, fun x => chunk_ok 1 (by omega) harg15 harg5 (PT x0 x6 x7) xs1 x3 _ _ x, fun x => chunk_ok 0 (by omega) harg15 harg5 (PT x0 x6 x7) xs1 x3 _ _ x, trivial⟩)

theorem sout0_E_3_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_E_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (htG (PT x0 x6 x7) xs3 x5) := by
  unfold sout0_E_3 kernelRun0_E
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2, pay51_eq]
  refine (st_whole (S := S16x1024) (e := .f32) _ _ _ _ z2 _).trans ?_
  exact ht_eq _ _ _

theorem sout0_E_4_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_E_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (daG xs4 (htG (PT x0 x6 x7) xs3 x5) xs0) := by
  unfold sout0_E_4 kernelRun0_E
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, ra_whole (S := S16x3584) harg18 xs4 z2, cov_whole (S := S16x1024) _ _ _ z2 z2, cov_whole (S := S16x3584) _ _ _ z2 z2]
  refine (st_whole (S := S16x3584) (e := .f32) _ _ _ _ z2 _).trans ?_
  exact (da_eq _ _ _).trans (congrArg (fun t => daG xs4 t xs0) (ht_eq _ _ _))

theorem out0_E_8_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    out0_E_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (accG (PT x0 x6 x7) xs1 x3) := by
  unfold out0_E_8 kernelRun0_E
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2]
  refine (st_whole (S := S1024x3584) (e := .bf16) _ _ _ _ z2 _).trans ?_
  refine (pay4_eq _).trans ?_
  exact cov_pieces (S := S1024x3584) (e := .f32) _ (accG (PT x0 x6 x7) xs1 x3) [_, _, _, _, _, _, _] z2 _ (View.PiecesOf.mem (Val := Elt Ideal) (s := S1024x3584) (e := .f32) (G := (accG (PT x0 x6 x7) xs1 x3)) (by refine ⟨fun x => chunk_ok 6 (by omega) harg15 harg5 (PT x0 x6 x7) xs1 x3 _ _ x, fun x => chunk_ok 5 (by omega) harg15 harg5 (PT x0 x6 x7) xs1 x3 _ _ x, fun x => chunk_ok 4 (by omega) harg15 harg5 (PT x0 x6 x7) xs1 x3 _ _ x, fun x => chunk_ok 3 (by omega) harg15 harg5 (PT x0 x6 x7) xs1 x3 _ _ x, fun x => chunk_ok 2 (by omega) harg15 harg5 (PT x0 x6 x7) xs1 x3 _ _ x, fun x => chunk_ok 1 (by omega) harg15 harg5 (PT x0 x6 x7) xs1 x3 _ _ x, fun x => chunk_ok 0 (by omega) harg15 harg5 (PT x0 x6 x7) xs1 x3 _ _ x, trivial⟩)) (chunks_cover _ _ _ _ _ _ _ _ _ _ _ _ _ _)

theorem out0_E_9_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    out0_E_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = fun y => half * (daG xs4 (htG (PT x0 x6 x7) xs3 x5) xs0) y := by
  unfold out0_E_9 kernelRun0_E
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, ra_whole (S := S16x3584) harg18 xs4 z2, cov_whole (S := S16x1024) _ _ _ z2 z2, cov_whole (S := S16x3584) _ _ _ z2 z2]
  refine (st_whole (S := S16x3584) (e := .bf16) _ _ _ _ z2 _).trans ?_
  refine (pay6_eq _).trans ?_
  exact congrArg (fun (t : S16x3584.Idx → EReal) y => half * t y) ((da_eq _ _ _).trans (congrArg (fun t => daG xs4 t xs0) (ht_eq _ _ _)))

theorem out0_E_10_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    out0_E_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = fun y => half * (dbG (i 1).val (PT x0 x6 x7) xs5 xs2) y := by
  unfold out0_E_10 kernelRun0_E
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2]
  refine (st_whole (S := S16x18944) (e := .bf16) _ _ _ _ z2 _).trans ?_
  refine (pay7_eq _).trans (congrArg (fun (t : S16x18944.Idx → EReal) y => half * t y) ?_)
  refine (whole_load (S := S16x18944) (e := .f32) _ _ z2 _).trans ?_
  exact db_store _ [] (i 1).val (i 1).isLt _ _ _ _ (off31_eq i) _ _ (fun k o => db_at harg19 xs5 (i 1).val (i 1).isLt _ (off31_eq i) _ k o) (harg19.read_unread xs5)

theorem sout0_E_5_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    sout0_E_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (dbG (i 1).val (PT x0 x6 x7) xs5 xs2) := by
  unfold sout0_E_5 kernelRun0_E
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2, xat_eq]
  exact db_store _ [] (i 1).val (i 1).isLt _ _ _ _ (off31_eq i) _ _ (fun k o => db_at harg19 xs5 (i 1).val (i 1).isLt _ (off31_eq i) _ k o) (harg19.read_unread xs5)

theorem out0_E_11_eq (c : Dev nD) (i : grid0.Coords) (arg2 : Memref sig .tc .vmem S1024x512 .bf16) (harg2 : arg2.IsWhole) (arg3 : Memref sig .tc .vmem S1024x3584 .fp8e4m3) (harg3 : arg3.IsWhole) (arg4 : Memref sig .tc .vmem S1024x128 .f32) (harg4 : arg4.IsWhole) (arg5 : Memref sig .tc .vmem S1x3584x512 .bf16) (harg5 : arg5.IsWhole) (arg6 : Memref sig .tc .vmem S16x3584 .bf16) (harg6 : arg6.IsWhole) (arg7 : Memref sig .tc .vmem S16x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x3584 .bf16) (harg10 : arg10.IsWhole) (arg11 : Memref sig .tc .vmem S16x3584 .bf16) (harg11 : arg11.IsWhole) (arg12 : Memref sig .tc .vmem S16x18944 .bf16) (harg12 : arg12.IsWhole) (arg13 : Memref sig .tc .vmem S1x18944 .f32) (harg13 : arg13.IsWhole) (arg14 : Memref sig .tc .vmem S1024x3584 .bf16) (harg14 : arg14.IsWhole) (arg15 : Memref sig .tc .vmem S1024x3584 .f32) (harg15 : arg15.IsWhole) (arg16 : Memref sig .tc .vmem S16x1024 .bf16) (harg16 : arg16.IsWhole) (arg17 : Memref sig .tc .vmem S16x1024 .f32) (harg17 : arg17.IsWhole) (arg18 : Memref sig .tc .vmem S16x3584 .f32) (harg18 : arg18.IsWhole) (arg19 : Memref sig .tc .vmem S16x18944 .f32) (harg19 : arg19.IsWhole) (hc0 : ¬cond0_0 i) (hc1 : ¬cond0_1 i) (hc2 : cond0_2 i) (hc3 : cond0_3 i)
    (x0 : Vec Ideal S1024x512 .bf16) (x1 : Vec Ideal S1024x3584 .fp8e4m3) (x2 : Vec Ideal S1024x128 .f32) (x3 : Vec Ideal S1x3584x512 .bf16) (x4 : Vec Ideal S16x3584 .bf16) (x5 : Vec Ideal S16x512 .bf16) (x6 : Vec Ideal S1x512 .f32) (x7 : Vec Ideal S1x512 .f32) (xo11 : Vec Ideal S1x18944 .f32) (xs0 : Vec Ideal S1024x3584 .bf16) (xs1 : Vec Ideal S1024x3584 .f32) (xs2 : Vec Ideal S16x1024 .bf16) (xs3 : Vec Ideal S16x1024 .f32) (xs4 : Vec Ideal S16x3584 .f32) (xs5 : Vec Ideal S16x18944 .f32) :
    out0_E_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 xo11 xs0 xs1 xs2 xs3 xs4 xs5 = (dmG (i 1).val x0 xo11 xs0 x3 x7) := by
  unfold out0_E_11 kernelRun0_E
  dsimp only
  try sl_unfold_words
  simp only [ra_whole (S := S1024x512) harg2 x0 z2, ra_whole (S := S1x512) harg8 x6 z2, ra_whole (S := S1x512) harg9 x7 z2, ra_whole (S := S16x512) harg7 x5 z2, ra_whole (S := S16x3584) harg6 x4 z2, ra_whole (S := S1x3584x512) harg5 x3 z3, ra_whole (S := S1024x3584) harg14 xs0 z2, ra_whole (S := S16x1024) harg16 xs2 z2, ra_whole (S := S16x1024) harg17 xs3 z2, cov_whole (S := S16x1024) _ _ _ z2 z2, cov_whole (S := S16x3584) _ _ _ z2 z2]
  exact dm_store _ [] (i 1).val (i 1).isLt _ _ _ _ _ _ (off30_eq i) _ _ (fun k o => dm_at harg13 xo11 (i 1).val (i 1).isLt _ (off30_eq i) _ k o) (harg13.read_unread xo11)

end Cert.KernelIdeal.Hand
-- ==== Proof.KFold.lean ====
/-
  The state carried from grid point to grid point, identified: by induction on the point, every running buffer holds the
  partial sums the mathematics says, and the flushed blocks are the results.
-/
module

public import proofs.«01_k».proof.Proof.KCase
public import proofs.«01_k».proof.Proof.KInv

@[expose] public section

set_option maxRecDepth 16384

noncomputable section

namespace Cert.KernelIdeal.Hand

open Idealize.ShloMosaic Idealize.ShloMosaic.TcCoe Idealize.ShloMosaic.Pointwise
open Cert.KernelIdeal Cert.KernelIdeal.Gen Cert.Hand
open scoped BigOperators

variable (m : (ℓ : Loc nD τ sig) → Buf (Elt Ideal) ℓ)

/-- The buffers after a point: the four output blocks, then the six scratches. -/
abbrev St := Vec Ideal S1024x3584 .bf16 × Vec Ideal S16x3584 .bf16 × Vec Ideal S16x18944 .bf16 × Vec Ideal S1x18944 .f32 × Vec Ideal S1024x3584 .bf16 × Vec Ideal S1024x3584 .f32 × Vec Ideal S16x1024 .bf16 × Vec Ideal S16x1024 .f32 × Vec Ideal S16x3584 .f32 × Vec Ideal S16x18944 .f32

/-- What the buffers hold after point `t`. -/
structure Inv (I : In) (t : ℕ) (s : St) : Prop where
  dm : IsDm I (t + 1) s.2.2.2.1
  xh : IsXh I (t / 37) s.2.2.2.2.1
  acc : IsAcc I (t / 37) (t % 37 + 1) s.2.2.2.2.2.1
  xat : IsXat I (t / 37) s.2.2.2.2.2.2.1
  ht : IsHt I (t / 37) (t % 37 + 1) s.2.2.2.2.2.2.2.1
  da : IsDa I ((t + 1) / 37) s.2.2.2.2.2.2.2.2.1
  db : IsDb I (t + 1) s.2.2.2.2.2.2.2.2.2
  o8 : t % 37 = 36 → IsAcc I (t / 37) 37 s.1
  o9 : t = 443 → ∀ (q : Fin 16) (k : Fin 3584), s.2.1 (ix2 q k) = half * I.da 12288 q.val k.val
  o10 : t = 443 → ∀ (q : Fin 16) (o : Fin 18944), s.2.2.1 (ix2 q o) = half * I.db 12288 q.val o.val

theorem coords1 : ∀ t : Fin grid0.N, ((grid0.coords t) 1).val = t.val % 37 := by decide +kernel

/-- The input blocks are the tiles of `I`. -/
abbrev Tiles (c : Dev nD) (I : In) : Prop := ∀ t : Fin cfg0.N, Tile I t.val (iblk m c 0 t) (iblk m c 1 t) (iblk m c 2 t) (iblk m c 3 t) (iblk m c 4 t) (iblk m c 5 t) (iblk m c 6 t) (iblk m c 7 t)

theorem inv_A (c : Dev nD) (I : In) (hT : Tiles m c I) (t : Fin cfg0.N) (h0 : t.val % 444 = 0) (h1 : t.val % 37 = 0) (h2 : ¬t.val % 37 = 36) (h3 : ¬t.val % 444 = 443) : Inv I t.val (outsAt0 m c t.val t.isLt) := by
  have T := hT t
  have hN : t.val < 444 := lt_of_lt_of_eq t.isLt Gen.N_0
  have hj := coords1 t
  have ht0 : t.val = 0 := by omega
  have hxh := T.xh
  have hxat := T.xat T.xh
  have hdm := dm_zero (I := I); rw [← ht0] at hdm
  have hdb := db_zero (I := I); rw [← ht0] at hdb
  have hacc := acc_zero (I := I) (t.val / 37); rw [← h1] at hacc
  have hht := ht_zero (I := I) (t.val / 37); rw [← h1] at hht
  rw [outsAt0_A m c t h0 h1 h2 h3]
  refine ⟨?_, ?_, ?_, ?_, ?_, ?_, ?_, ?_, ?_, ?_⟩ <;> dsimp only
  · rw [out0_A_11_eq, hj]; exact T.dm hdm hxh
  · rw [sout0_A_0_eq]; exact hxh
  · rw [sout0_A_1_eq]; exact T.acc hacc
  · rw [sout0_A_2_eq]; exact hxat
  · rw [sout0_A_3_eq]; exact T.ht hht
  · rw [sout0_A_4_eq, show (t.val + 1) / 37 = 0 by omega]; exact da_zero
  · rw [sout0_A_5_eq, hj]; exact T.db hdb hxat
  · intro h; exact absurd h h2
  · intro h; omega
  · intro h; omega

theorem inv_B (c : Dev nD) (I : In) (hT : Tiles m c I) (t : Fin cfg0.N) (h0 : ¬t.val % 444 = 0) (h1 : ¬t.val % 37 = 0) (h2 : ¬t.val % 37 = 36) (h3 : ¬t.val % 444 = 443) (ih : Inv I (t.val - 1) (outsAt0 m c (t.val - 1) (Nat.lt_of_le_of_lt (Nat.sub_le _ _) t.isLt))) : Inv I t.val (outsAt0 m c t.val t.isLt) := by
  have T := hT t
  have hN : t.val < 444 := lt_of_lt_of_eq t.isLt Gen.N_0
  have hj := coords1 t
  have e1 : t.val - 1 + 1 = t.val := by omega
  have hdm := ih.dm; rw [e1] at hdm
  have hdb := ih.db; rw [e1] at hdb
  have hda := ih.da; rw [e1] at hda
  have e2 : (t.val - 1) / 37 = t.val / 37 := by omega
  have e3 : (t.val - 1) % 37 + 1 = t.val % 37 := by omega
  have hxh := ih.xh; rw [e2] at hxh
  have hxat := ih.xat; rw [e2] at hxat
  have hacc := ih.acc; rw [e2, e3] at hacc
  have hht := ih.ht; rw [e2, e3] at hht
  rw [outsAt0_B m c t h0 h1 h2 h3]
  refine ⟨?_, ?_, ?_, ?_, ?_, ?_, ?_, ?_, ?_, ?_⟩ <;> dsimp only
  · rw [out0_B_11_eq, hj]; exact T.dm hdm hxh
  · exact hxh
  · rw [sout0_B_1_eq]; exact T.acc hacc
  · exact hxat
  · rw [sout0_B_3_eq]; exact T.ht hht
  · rw [show (t.val + 1) / 37 = t.val / 37 by omega]; exact hda
  · rw [sout0_B_5_eq, hj]; exact T.db hdb hxat
  · intro h; exact absurd h h2
  · intro h; omega
  · intro h; omega

theorem inv_C (c : Dev nD) (I : In) (hT : Tiles m c I) (t : Fin cfg0.N) (h0 : ¬t.val % 444 = 0) (h1 : ¬t.val % 37 = 0) (h2 : t.val % 37 = 36) (h3 : ¬t.val % 444 = 443) (ih : Inv I (t.val - 1) (outsAt0 m c (t.val - 1) (Nat.lt_of_le_of_lt (Nat.sub_le _ _) t.isLt))) : Inv I t.val (outsAt0 m c t.val t.isLt) := by
  have T := hT t
  have hN : t.val < 444 := lt_of_lt_of_eq t.isLt Gen.N_0
  have hj := coords1 t
  have e1 : t.val - 1 + 1 = t.val := by omega
  have hdm := ih.dm; rw [e1] at hdm
  have hdb := ih.db; rw [e1] at hdb
  have hda := ih.da; rw [e1] at hda
  have e2 : (t.val - 1) / 37 = t.val / 37 := by omega
  have e3 : (t.val - 1) % 37 + 1 = t.val % 37 := by omega
  have hxh := ih.xh; rw [e2] at hxh
  have hxat := ih.xat; rw [e2] at hxat
  have hacc := ih.acc; rw [e2, e3] at hacc
  have hht := ih.ht; rw [e2, e3] at hht
  rw [outsAt0_C m c t h0 h1 h2 h3]
  refine ⟨?_, ?_, ?_, ?_, ?_, ?_, ?_, ?_, ?_, ?_⟩ <;> dsimp only
  · rw [out0_C_11_eq, hj]; exact T.dm hdm hxh
  · exact hxh
  · rw [sout0_C_1_eq]; exact T.acc hacc
  · exact hxat
  · rw [sout0_C_3_eq]; exact T.ht hht
  · have hh := T.ht hht; rw [h2] at hh; rw [sout0_C_4_eq, show (t.val + 1) / 37 = t.val / 37 + 1 by omega]; exact da_step hda hh hxh
  · rw [sout0_C_5_eq, hj]; exact T.db hdb hxat
  · intro _; have ha := T.acc hacc; rw [h2] at ha; rw [out0_C_8_eq]; exact ha
  · intro h; omega
  · intro h; omega

theorem inv_D (c : Dev nD) (I : In) (hT : Tiles m c I) (t : Fin cfg0.N) (h0 : ¬t.val % 444 = 0) (h1 : t.val % 37 = 0) (h2 : ¬t.val % 37 = 36) (h3 : ¬t.val % 444 = 443) (ih : Inv I (t.val - 1) (outsAt0 m c (t.val - 1) (Nat.lt_of_le_of_lt (Nat.sub_le _ _) t.isLt))) : Inv I t.val (outsAt0 m c t.val t.isLt) := by
  have T := hT t
  have hN : t.val < 444 := lt_of_lt_of_eq t.isLt Gen.N_0
  have hj := coords1 t
  have e1 : t.val - 1 + 1 = t.val := by omega
  have hdm := ih.dm; rw [e1] at hdm
  have hdb := ih.db; rw [e1] at hdb
  have hda := ih.da; rw [e1] at hda
  have hxh := T.xh
  have hxat := T.xat T.xh
  have hacc := acc_zero (I := I) (t.val / 37); rw [← h1] at hacc
  have hht := ht_zero (I := I) (t.val / 37); rw [← h1] at hht
  rw [outsAt0_D m c t h0 h1 h2 h3]
  refine ⟨?_, ?_, ?_, ?_, ?_, ?_, ?_, ?_, ?_, ?_⟩ <;> dsimp only
  · rw [out0_D_11_eq, hj]; exact T.dm hdm hxh
  · rw [sout0_D_0_eq]; exact hxh
  · rw [sout0_D_1_eq]; exact T.acc hacc
  · rw [sout0_D_2_eq]; exact hxat
  · rw [sout0_D_3_eq]; exact T.ht hht
  · rw [show (t.val + 1) / 37 = t.val / 37 by omega]; exact hda
  · rw [sout0_D_5_eq, hj]; exact T.db hdb hxat
  · intro h; exact absurd h h2
  · intro h; omega
  · intro h; omega

theorem inv_E (c : Dev nD) (I : In) (hT : Tiles m c I) (t : Fin cfg0.N) (h0 : ¬t.val % 444 = 0) (h1 : ¬t.val % 37 = 0) (h2 : t.val % 37 = 36) (h3 : t.val % 444 = 443) (ih : Inv I (t.val - 1) (outsAt0 m c (t.val - 1) (Nat.lt_of_le_of_lt (Nat.sub_le _ _) t.isLt))) : Inv I t.val (outsAt0 m c t.val t.isLt) := by
  have T := hT t
  have hN : t.val < 444 := lt_of_lt_of_eq t.isLt Gen.N_0
  have hj := coords1 t
  have e1 : t.val - 1 + 1 = t.val := by omega
  have hdm := ih.dm; rw [e1] at hdm
  have hdb := ih.db; rw [e1] at hdb
  have hda := ih.da; rw [e1] at hda
  have e2 : (t.val - 1) / 37 = t.val / 37 := by omega
  have e3 : (t.val - 1) % 37 + 1 = t.val % 37 := by omega
  have hxh := ih.xh; rw [e2] at hxh
  have hxat := ih.xat; rw [e2] at hxat
  have hacc := ih.acc; rw [e2, e3] at hacc
  have hht := ih.ht; rw [e2, e3] at hht
  rw [outsAt0_E m c t h0 h1 h2 h3]
  refine ⟨?_, ?_, ?_, ?_, ?_, ?_, ?_, ?_, ?_, ?_⟩ <;> dsimp only
  · rw [out0_E_11_eq, hj]; exact T.dm hdm hxh
  · exact hxh
  · rw [sout0_E_1_eq]; exact T.acc hacc
  · exact hxat
  · rw [sout0_E_3_eq]; exact T.ht hht
  · have hh := T.ht hht; rw [h2] at hh; rw [sout0_E_4_eq, show (t.val + 1) / 37 = t.val / 37 + 1 by omega]; exact da_step hda hh hxh
  · rw [sout0_E_5_eq, hj]; exact T.db hdb hxat
  · intro _; have ha := T.acc hacc; rw [h2] at ha; rw [out0_E_8_eq]; exact ha
  · intro h q k; have hh := T.ht hht; rw [h2] at hh; rw [out0_E_9_eq]; show half * _ = _; rw [da_step hda hh hxh q k]; exact congrArg (fun n => half * I.da n q.val k.val) (by omega)
  · intro h q o; rw [out0_E_10_eq, hj]; show half * _ = _; rw [T.db hdb hxat q o]; exact congrArg (fun n => half * I.db n q.val o.val) (by omega)

theorem inv (c : Dev nD) (I : In) (hT : Tiles m c I) : ∀ (n : ℕ) (hn : n < cfg0.N), Inv I n (outsAt0 m c n hn) := by
  intro n
  induction n with
  | zero => intro hn; exact inv_A m c I hT ⟨0, hn⟩ (Nat.zero_mod _) (Nat.zero_mod _) (by show ¬0 % 37 = 36; omega) (by show ¬0 % 444 = 443; omega)
  | succ n ih =>
    intro hn
    have hN : n + 1 < 444 := lt_of_lt_of_eq hn Gen.N_0
    have hp := ih (Nat.lt_of_succ_lt hn)
    by_cases h1 : (n + 1) % 37 = 0
    · exact inv_D m c I hT ⟨n + 1, hn⟩ (by show ¬(n + 1) % 444 = 0; omega) h1 (by show ¬(n + 1) % 37 = 36; omega) (by show ¬(n + 1) % 444 = 443; omega) hp
    · by_cases h2 : (n + 1) % 37 = 36
      · by_cases h3 : (n + 1) % 444 = 443
        · exact inv_E m c I hT ⟨n + 1, hn⟩ (by show ¬(n + 1) % 444 = 0; omega) h1 h2 h3 hp
        · exact inv_C m c I hT ⟨n + 1, hn⟩ (by show ¬(n + 1) % 444 = 0; omega) h1 h2 h3 hp
      · exact inv_B m c I hT ⟨n + 1, hn⟩ (by show ¬(n + 1) % 444 = 0; omega) h1 h2 (by show ¬(n + 1) % 444 = 443; omega) hp

end Cert.KernelIdeal.Hand
-- ==== Proof.KBlk.lean ====
/-
  The blocks the kernel reads, as tiles of the arguments: each input window's block at a grid point is the tile its index
  map names, through the reshapes, the transpose and the padding the host line applies first.
-/
module

public import proofs.«01_k».proof.Proof.KInv
public import proofs.«01_k».proof.Proof.Args
public import proofs.«01_k».proof.Proof.KFold
public import Idealize.ShloMosaic.Lib.Claim
public import Idealize.ShloMosaic.Lib.KernelVsHost

@[expose] public section

set_option maxRecDepth 16384

noncomputable section

namespace Cert.KernelIdeal.Hand

open Idealize.ShloMosaic Idealize.ShloMosaic.TcCoe Idealize.ShloMosaic.Pointwise
open Cert.KernelIdeal Cert.KernelIdeal.Gen Cert.Hand

variable (m : (ℓ : Loc nD τ sig) → Buf (Elt Ideal) ℓ)

theorem pad_in (x : Vec Ideal S12x1024x112 .f32) (v : Vec Ideal S_ .f32) (n : Fin 12288) (o : Fin 128) (ho : o.val < 112) :
    pad S12288x128 ![0, 0] ![0, 16] ![0, 0] (shapeCast S12288x112 x shapeCasts_S12x1024x112_S12288x112) v pads_S12288x112_S12288x128_000_0160 h_S_ (ix2 n o)
      = x (ix3 ⟨n.val / 1024, by omega⟩ ⟨n.val % 1024, by omega⟩ ⟨o.val, ho⟩) := by
  refine (pad_apply_of_inside (s := S12288x112) (t := S12288x128) _ _ _ _ _ _ _ (ix2 n o) (ix2 n ⟨o.val, ho⟩) (fun a => match a with
    | ⟨0, _⟩ => (by show n.val = 0 + n.val * (0 + 1); omega)
    | ⟨1, _⟩ => (by show o.val = 0 + o.val * (0 + 1); omega))).trans ?_
  pointwise

theorem V2 (c : Dev nD) (n : Fin 12288) (o : Fin 18944) : (V m c main_v2 : Vec Ideal S12288x18944 .bf16) (ix2 n o)
    = (m ((c : Thread nD τ).loc main_arg0) : Vec Ideal S12x1024x18944 .bf16) (ix3 ⟨n.val / 1024, by omega⟩ ⟨n.val % 1024, by omega⟩ o) := by
  simp only [V, hostOps0, hostOps0_1, hostOps0_2, List.flatten_cons, List.flatten_nil, List.append_nil, List.cons_append, List.nil_append]
  entry_read
  pointwise

theorem V3 (c : Dev nD) (n : Fin 12288) (o : Fin 3584) : (V m c main_v3 : Vec Ideal S12288x3584 .fp8e4m3) (ix2 n o)
    = (m ((c : Thread nD τ).loc main_arg1) : Vec Ideal S12x1024x3584 .fp8e4m3) (ix3 ⟨n.val / 1024, by omega⟩ ⟨n.val % 1024, by omega⟩ o) := by
  simp only [V, hostOps0, hostOps0_1, hostOps0_2, List.flatten_cons, List.flatten_nil, List.append_nil, List.cons_append, List.nil_append]
  entry_read
  pointwise

theorem V1 (c : Dev nD) (n : Fin 12288) (o : Fin 128) (ho : o.val < 112) : (V m c main_v1 : Vec Ideal S12288x128 .f32) (ix2 n o)
    = (m ((c : Thread nD τ).loc main_arg2) : Vec Ideal S12x1024x112 .f32) (ix3 ⟨n.val / 1024, by omega⟩ ⟨n.val % 1024, by omega⟩ ⟨o.val, ho⟩) := by
  simp only [V, hostOps0, hostOps0_1, hostOps0_2, List.flatten_cons, List.flatten_nil, List.append_nil, List.cons_append, List.nil_append]
  entry_read
  exact pad_in (m ((c : Thread nD τ).loc main_arg2)) _ n o ho

theorem V4 (c : Dev nD) (q : Fin 16) (k : Fin 3584) : (V m c main_v4 : Vec Ideal S16x3584 .bf16) (ix2 q k)
    = (m ((c : Thread nD τ).loc main_arg4) : Vec Ideal S3584x16 .bf16) (ix2 k q) := by
  simp only [V, hostOps0, hostOps0_1, hostOps0_2, List.flatten_cons, List.flatten_nil, List.append_nil, List.cons_append, List.nil_append]
  entry_read
  pointwise

theorem V5 (c : Dev nD) (o : Fin 18944) : (V m c main_v5 : Vec Ideal S1x18944 .f32) (ix2 0 o)
    = (m ((c : Thread nD τ).loc main_arg6) : Vec Ideal S18944 .f32) (ix1 o) := by
  simp only [V, hostOps0, hostOps0_1, hostOps0_2, List.flatten_cons, List.flatten_nil, List.append_nil, List.cons_append, List.nil_append]
  entry_read
  pointwise

theorem V6 (c : Dev nD) (o : Fin 18944) : (V m c main_v6 : Vec Ideal S1x18944 .f32) (ix2 0 o)
    = (m ((c : Thread nD τ).loc main_arg7) : Vec Ideal S18944 .f32) (ix1 o) := by
  simp only [V, hostOps0, hostOps0_1, hostOps0_2, List.flatten_cons, List.flatten_nil, List.append_nil, List.cons_append, List.nil_append]
  entry_read
  pointwise

theorem wi0 : ∀ t : Fin grid0.N, win0_0.index t 0 = t.val / 37 ∧ win0_0.index t 1 = t.val % 37 := by decide +kernel
theorem wi1 : ∀ t : Fin grid0.N, win0_1.index t 0 = t.val / 37 ∧ win0_1.index t 1 = 0 := by decide +kernel
theorem wi2 : ∀ t : Fin grid0.N, win0_2.index t 0 = t.val / 37 ∧ win0_2.index t 1 = 0 := by decide +kernel
theorem wi3 : ∀ t : Fin grid0.N, win0_3.index t 0 = t.val % 37 ∧ win0_3.index t 1 = 0 ∧ win0_3.index t 2 = 0 := by decide +kernel
theorem wi4 : ∀ t : Fin grid0.N, win0_4.index t 0 = 0 ∧ win0_4.index t 1 = 0 := by decide +kernel
theorem wi5 : ∀ t : Fin grid0.N, win0_5.index t 0 = 0 ∧ win0_5.index t 1 = t.val % 37 := by decide +kernel
theorem wi6 : ∀ t : Fin grid0.N, win0_6.index t 0 = 0 ∧ win0_6.index t 1 = t.val % 37 := by decide +kernel
theorem wi7 : ∀ t : Fin grid0.N, win0_7.index t 0 = 0 ∧ win0_7.index t 1 = t.val % 37 := by decide +kernel

theorem blk0 (c : Dev nD) (t : Fin cfg0.N) (r : Fin 1024) (o : Fin 512) : (iblk m c 0 t : Vec Ideal S1024x512 .bf16) (ix2 r o)
    = (V m c main_v2 : Vec Ideal S12288x18944 .bf16) (ix2 ⟨1024 * (t.val / 37) + r.val, (by have := lt_of_lt_of_eq t.isLt Gen.N_0; omega)⟩ ⟨512 * (t.val % 37) + o.val, by omega⟩) := by
  have hN : t.val < 444 := lt_of_lt_of_eq t.isLt Gen.N_0
  have hi := wi0 t
  unfold iblk
  rw [View.read_apply]
  show V m c main_v2 _ = V m c main_v2 _
  congr 1
  funext a
  apply Fin.ext
  match a with
  | ⟨0, _⟩ => show win0_0.index t 0 * 1024 + 1 * r.val = 1024 * (t.val / 37) + r.val; rw [hi.1]; omega
  | ⟨1, _⟩ => show win0_0.index t 1 * 512 + 1 * o.val = 512 * (t.val % 37) + o.val; rw [hi.2]; omega

theorem blk1 (c : Dev nD) (t : Fin cfg0.N) (r : Fin 1024) (k : Fin 3584) : (iblk m c 1 t : Vec Ideal S1024x3584 .fp8e4m3) (ix2 r k)
    = (V m c main_v3 : Vec Ideal S12288x3584 .fp8e4m3) (ix2 ⟨1024 * (t.val / 37) + r.val, (by have := lt_of_lt_of_eq t.isLt Gen.N_0; omega)⟩ k) := by
  have hN : t.val < 444 := lt_of_lt_of_eq t.isLt Gen.N_0
  have hi := wi1 t
  unfold iblk
  rw [View.read_apply]
  show V m c main_v3 _ = V m c main_v3 _
  congr 1
  funext a
  apply Fin.ext
  match a with
  | ⟨0, _⟩ => show win0_1.index t 0 * 1024 + 1 * r.val = 1024 * (t.val / 37) + r.val; rw [hi.1]; omega
  | ⟨1, _⟩ => show win0_1.index t 1 * 3584 + 1 * k.val = k.val; rw [hi.2]; omega

theorem blk2 (c : Dev nD) (t : Fin cfg0.N) (r : Fin 1024) (k : Fin 128) : (iblk m c 2 t : Vec Ideal S1024x128 .f32) (ix2 r k)
    = (V m c main_v1 : Vec Ideal S12288x128 .f32) (ix2 ⟨1024 * (t.val / 37) + r.val, (by have := lt_of_lt_of_eq t.isLt Gen.N_0; omega)⟩ k) := by
  have hN : t.val < 444 := lt_of_lt_of_eq t.isLt Gen.N_0
  have hi := wi2 t
  unfold iblk
  rw [View.read_apply]
  show V m c main_v1 _ = V m c main_v1 _
  congr 1
  funext a
  apply Fin.ext
  match a with
  | ⟨0, _⟩ => show win0_2.index t 0 * 1024 + 1 * r.val = 1024 * (t.val / 37) + r.val; rw [hi.1]; omega
  | ⟨1, _⟩ => show win0_2.index t 1 * 128 + 1 * k.val = k.val; rw [hi.2]; omega

theorem blk3 (c : Dev nD) (t : Fin cfg0.N) (k : Fin 3584) (o : Fin 512) : (iblk m c 3 t : Vec Ideal S1x3584x512 .bf16) (ix3 0 k o)
    = (V m c main_arg3 : Vec Ideal S37x3584x512 .bf16) (ix3 ⟨t.val % 37, by omega⟩ k o) := by
  have hN : t.val < 444 := lt_of_lt_of_eq t.isLt Gen.N_0
  have hi := wi3 t
  unfold iblk
  rw [View.read_apply]
  show V m c main_arg3 _ = V m c main_arg3 _
  congr 1
  funext a
  apply Fin.ext
  match a with
  | ⟨0, _⟩ => show win0_3.index t 0 * 1 + 1 * (0 : Fin 1).val = t.val % 37; rw [hi.1]; omega
  | ⟨1, _⟩ => show win0_3.index t 1 * 3584 + 1 * k.val = k.val; rw [hi.2.1]; omega
  | ⟨2, _⟩ => show win0_3.index t 2 * 512 + 1 * o.val = o.val; rw [hi.2.2]; omega

theorem blk4 (c : Dev nD) (t : Fin cfg0.N) (q : Fin 16) (k : Fin 3584) : (iblk m c 4 t : Vec Ideal S16x3584 .bf16) (ix2 q k)
    = (V m c main_v4 : Vec Ideal S16x3584 .bf16) (ix2 q k) := by
  have hN : t.val < 444 := lt_of_lt_of_eq t.isLt Gen.N_0
  have hi := wi4 t
  unfold iblk
  rw [View.read_apply]
  show V m c main_v4 _ = V m c main_v4 _
  congr 1
  funext a
  apply Fin.ext
  match a with
  | ⟨0, _⟩ => show win0_4.index t 0 * 16 + 1 * q.val = q.val; rw [hi.1]; omega
  | ⟨1, _⟩ => show win0_4.index t 1 * 3584 + 1 * k.val = k.val; rw [hi.2]; omega

theorem blk5 (c : Dev nD) (t : Fin cfg0.N) (q : Fin 16) (o : Fin 512) : (iblk m c 5 t : Vec Ideal S16x512 .bf16) (ix2 q o)
    = (V m c main_arg5 : Vec Ideal S16x18944 .bf16) (ix2 q ⟨512 * (t.val % 37) + o.val, by omega⟩) := by
  have hN : t.val < 444 := lt_of_lt_of_eq t.isLt Gen.N_0
  have hi := wi5 t
  unfold iblk
  rw [View.read_apply]
  show V m c main_arg5 _ = V m c main_arg5 _
  congr 1
  funext a
  apply Fin.ext
  match a with
  | ⟨0, _⟩ => show win0_5.index t 0 * 16 + 1 * q.val = q.val; rw [hi.1]; omega
  | ⟨1, _⟩ => show win0_5.index t 1 * 512 + 1 * o.val = 512 * (t.val % 37) + o.val; rw [hi.2]; omega

theorem blk6 (c : Dev nD) (t : Fin cfg0.N) (o : Fin 512) : (iblk m c 6 t : Vec Ideal S1x512 .f32) (ix2 0 o)
    = (V m c main_v5 : Vec Ideal S1x18944 .f32) (ix2 0 ⟨512 * (t.val % 37) + o.val, by omega⟩) := by
  have hN : t.val < 444 := lt_of_lt_of_eq t.isLt Gen.N_0
  have hi := wi6 t
  unfold iblk
  rw [View.read_apply]
  show V m c main_v5 _ = V m c main_v5 _
  congr 1
  funext a
  apply Fin.ext
  match a with
  | ⟨0, _⟩ => show win0_6.index t 0 * 1 + 1 * (0 : Fin 1).val = (0 : Fin 1).val; rw [hi.1]; omega
  | ⟨1, _⟩ => show win0_6.index t 1 * 512 + 1 * o.val = 512 * (t.val % 37) + o.val; rw [hi.2]; omega

theorem blk7 (c : Dev nD) (t : Fin cfg0.N) (o : Fin 512) : (iblk m c 7 t : Vec Ideal S1x512 .f32) (ix2 0 o)
    = (V m c main_v6 : Vec Ideal S1x18944 .f32) (ix2 0 ⟨512 * (t.val % 37) + o.val, by omega⟩) := by
  have hN : t.val < 444 := lt_of_lt_of_eq t.isLt Gen.N_0
  have hi := wi7 t
  unfold iblk
  rw [View.read_apply]
  show V m c main_v6 _ = V m c main_v6 _
  congr 1
  funext a
  apply Fin.ext
  match a with
  | ⟨0, _⟩ => show win0_7.index t 0 * 1 + 1 * (0 : Fin 1).val = (0 : Fin 1).val; rw [hi.1]; omega
  | ⟨1, _⟩ => show win0_7.index t 1 * 512 + 1 * o.val = 512 * (t.val % 37) + o.val; rw [hi.2]; omega

/-- The arguments as the kernel is given them. -/
def kin (c : Dev nD) : In := inp (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7))

theorem tiles (c : Dev nD) : Tiles m c (kin m c) := fun t =>
  ⟨fun r o => (blk0 m c t r o).trans ((V2 m c _ _).trans (rd3_eq _ _ _ _ rfl rfl rfl)),
   fun r k => (blk1 m c t r k).trans ((V3 m c _ _).trans (rd3_eq _ _ _ _ rfl rfl rfl)),
   fun r k hk => (blk2 m c t r k).trans ((V1 m c _ _ hk).trans (rd3_eq _ _ _ _ rfl rfl rfl)),
   fun k o => (blk3 m c t k o).trans ((congrFun (V_main_arg3 m c) _).trans (rd3_eq _ _ _ _ (by show t.val % 37 = (512 * (t.val % 37) + o.val) / 512; omega) rfl (by show o.val = (512 * (t.val % 37) + o.val) % 512; omega))),
   fun q k => (blk4 m c t q k).trans ((V4 m c _ _).trans (rd2_eq _ _ _ rfl rfl)),
   fun q o => (blk5 m c t q o).trans ((congrFun (V_main_arg5 m c) _).trans (rd2_eq _ _ _ rfl rfl)),
   fun o => (blk6 m c t o).trans ((V5 m c _).trans (rd1_eq _ _ rfl)),
   fun o => (blk7 m c t o).trans ((V6 m c _).trans (rd1_eq _ _ rfl))⟩

end Cert.KernelIdeal.Hand
-- ==== Proof.KMain.lean ====
/-
  The kernel's four results, as sums over the arguments.
-/
module

public import proofs.«01_k».proof.Proof.KBlk
public import proofs.«01_k».proof.Proof.Gen.KernelIdeal.Value

@[expose] public section

set_option maxRecDepth 16384

noncomputable section

namespace Cert.KernelIdeal.Hand

open Idealize.ShloMosaic Idealize.ShloMosaic.TcCoe Idealize.ShloMosaic.Pointwise
open Cert.KernelIdeal Cert.KernelIdeal.Gen Cert.KernelIdeal.Value Cert.Hand

variable (m : (ℓ : Loc nD τ sig) → Buf (Elt Ideal) ℓ)

theorem acc_inv (c : Dev nD) (n : ℕ) (h : 0 + n < cfg0.N) :
    Inv (kin m c) n (Pipeline.accAt (fun n h => stAt0 m c n h junk0) (stAt0 m c) 0 n h) := by
  have hn : n < cfg0.N := by omega
  have := inv m c (kin m c) (tiles m c) n hn
  rw [outsAt0_sweep] at this
  exact this

theorem G8_apply (c : Dev nD) (n : Fin 12288) (k : Fin 3584) : (G8 m c : Vec Ideal S12288x3584 .bf16) (ix2 n k) = (kin m c).dx 18944 n.val k.val := by
  have hp : pt8Of (ix2 n k : S12288x3584.Idx) = 37 * (n.val / 1024) + 36 := by
    show 37 * (1 * (n.val / 1024 - 0) + 1 * (k.val / 3584 - 0)) + 36 = _
    omega
  have hl : loc8Of (ix2 n k : S12288x3584.Idx) = (ix2 ⟨n.val % 1024, by omega⟩ k : S1024x3584.Idx) := by
    funext a
    apply Fin.ext
    match a with
    | ⟨0, _⟩ => rfl
    | ⟨1, _⟩ => show k.val % 3584 = k.val; omega
  have hN : pt8Of (ix2 n k : S12288x3584.Idx) < cfg0.N := by
    rw [hp]; exact lt_of_lt_of_eq (by omega) Gen.N_0.symm
  unfold G8
  rw [dif_pos hN, hl]
  have h8 := (acc_inv m c (pt8Of (ix2 n k : S12288x3584.Idx)) (by omega)).o8 (by omega) ⟨n.val % 1024, by omega⟩ k
  refine h8.trans ?_
  rw [hp]
  exact congrArg (fun x => (kin m c).dx 18944 x k.val) (by show 1024 * ((37 * (n.val / 1024) + 36) / 37) + n.val % 1024 = n.val; omega)

theorem G9_apply (c : Dev nD) (q : Fin 16) (k : Fin 3584) : (G9 m c : Vec Ideal S16x3584 .bf16) (ix2 q k) = half * (kin m c).da 12288 q.val k.val := by
  rw [G9_last]
  exact (acc_inv m c 443 _).o9 rfl q k

theorem G10_apply (c : Dev nD) (q : Fin 16) (o : Fin 18944) : (G10 m c : Vec Ideal S16x18944 .bf16) (ix2 q o) = half * (kin m c).db 12288 q.val o.val := by
  rw [G10_last]
  exact (acc_inv m c 443 _).o10 rfl q o

theorem G11_apply (c : Dev nD) (o : Fin 18944) : (G11 m c : Vec Ideal S1x18944 .f32) (ix2 0 o) = (kin m c).dm 12 o.val := by
  rw [G11_last]
  refine ((acc_inv m c 443 _).dm o).trans ?_
  exact congrArg (fun x => (kin m c).dm x o.val) (by omega)

end Cert.KernelIdeal.Hand
-- ==== Proof.KRef.lean ====
/-
  The reference's four results, as the same sums over the arguments.
-/
module

public import proofs.«01_k».proof.Proof.Args
public import proofs.«01_k».proof.Proof.Gen.ReferenceIdeal.Read
public import Idealize.ShloMosaic.Lib.Pointwise

@[expose] public section

set_option maxRecDepth 16384

noncomputable section

namespace Cert.ReferenceIdeal.Hand

open Idealize.ShloMosaic Idealize.ShloMosaic.TcCoe Idealize.ShloMosaic.Pointwise
open Cert.ReferenceIdeal Cert.ReferenceIdeal.Gen Cert.ReferenceIdeal.Read Cert.Hand
open scoped BigOperators

/-! ### Sums -/

theorem sum_tiles (f : ℕ → EReal) (k m : ℕ) : ∑ i ∈ Finset.range m, ∑ r ∈ Finset.range k, f (k * i + r) = ∑ n ∈ Finset.range (k * m), f n := by
  induction m with
  | zero => rfl
  | succ m ih => rw [Finset.sum_range_succ, ih, Nat.mul_succ, Finset.sum_range_add]

theorem sum_tok (f : ℕ → EReal) (g : Fin 12 → Fin 1024 → EReal) (h : ∀ b s, g b s = f (1024 * b.val + s.val)) :
    ∑ b : Fin 12, ∑ s : Fin 1024, g b s = ∑ n ∈ Finset.range 12288, f n := by
  rw [← sum_tiles f 1024 12, Finset.sum_range (n := 12)]
  refine Finset.sum_congr rfl fun b _ => ?_
  rw [Finset.sum_range (n := 1024)]
  exact Finset.sum_congr rfl fun s _ => h b s

theorem sum_even_odd (f : ℕ → EReal) (m : ℕ) :
    (∑ j ∈ Finset.range m, f (2 * j)) + ∑ j ∈ Finset.range m, f (2 * j + 1) = ∑ k ∈ Finset.range (2 * m), f k := by
  induction m with
  | zero => simp
  | succ m ih =>
    rw [Finset.sum_range_succ, Finset.sum_range_succ, Nat.mul_succ, Finset.sum_range_succ, Finset.sum_range_succ, ← ih]
    exact (add_add_add_comm _ _ _ _).trans (add_assoc _ _ _).symm

/-- The tokens' axes summed: the source indices that drop to column `j` are `(b, s, j)`. -/
theorem fiber_tok {n0 n1 n2 : Nat} (h : (⟨3, ![n0, n1, n2]⟩ : Shape).ReducesTo [0, 1] ⟨1, ![n2]⟩) (o : Fin n2) (i : (⟨3, ![n0, n1, n2]⟩ : Shape).Idx) :
    h.drop i = ix1 o ↔ ∃ k : Fin n0 × Fin n1, ix3 k.1 k.2 o = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e (0 : Fin 1))).symm
  · rintro ⟨k, rfl⟩
    funext b
    apply Fin.ext
    match b with
    | ⟨0, _⟩ => rfl

theorem hostReduceAdd_tok {n0 n1 n2 : Nat} (h : (⟨3, ![n0, n1, n2]⟩ : Shape).ReducesTo [0, 1] ⟨1, ![n2]⟩) (v : (⟨3, ![n0, n1, n2]⟩ : Shape).Idx → EReal)
    (init : EReal) (o : Fin n2) : Ideal.hostReduceAdd h v init (ix1 o) = init + ∑ b : Fin n0, ∑ s : Fin n1, v (ix3 b s o) := by
  refine congrArg (init + ·) ((Finset.sum_filter_eq_sum_of_fiber _ (fun k : Fin n0 × Fin n1 => ix3 k.1 k.2 o)
    (fun _ _ e => Prod.ext (congrFun e 0) (congrFun e 1)) (fiber_tok h o) v).trans ?_)
  simp only [Fintype.sum_prod_type]

/-! ### The stages -/

variable (x0 : Vec Ideal S12x1024x18944 .bf16) (r0 : Vec Ideal S12x1024x3584 .bf16) (x2 : Vec Ideal S12x1024x112 .f32) (x3 : Vec Ideal S37x3584x512 .bf16)
  (x4 : Vec Ideal S3584x16 .bf16) (x5 : Vec Ideal S16x18944 .bf16) (x6 x7 : Vec Ideal S18944 .f32)

/-- The arguments as the reference is given them. -/
abbrev rin : In := inp x0 r0 x2 x3 x4 x5 x6 x7

theorem r10 (b : Fin 12) (s : Fin 1024) (o : Fin 18944) :
    val_main_v10 (F := Ideal) x0 x6 x7 (ix3 b s o) = (rin x0 r0 x2 x3 x4 x5 x6 x7).p (1024 * b.val + s.val) o.val := by
  have e : val_main_v10 (F := Ideal) x0 x6 x7 (ix3 b s o) = x0 (ix3 b s o) * Ideal.div (x6 (ix1 o)) (x7 (ix1 o)) := by
    pointwise [val_main_v10, val_main_v9, val_main_v8, val_main_v7, val_main_v6, val_main_v5]
  rw [e]
  exact congrArg₂ (· * ·) (rd3_eq _ _ _ _ (by omega) (by omega) rfl) (congrArg₂ Ideal.div (rd1_eq _ _ rfl) (rd1_eq _ _ rfl))

theorem r3 (j : Fin 1792) (o : Fin 18944) : val_main_v3 (F := Ideal) x3 (ix2 j o) = (rin x0 r0 x2 x3 x4 x5 x6 x7).v (2 * j.val) o.val := by
  have e : val_main_v3 (F := Ideal) x3 (ix2 j o) = x3 (ix3 ⟨o.val / 512, by omega⟩ ⟨2 * j.val, by omega⟩ ⟨o.val % 512, by omega⟩) := by
    pointwise [val_main_v3, val_main_v2, val_main_v1]
  exact e.trans (rd3_eq _ _ _ _ rfl rfl rfl)

theorem r4 (j : Fin 1792) (o : Fin 18944) : val_main_v4 (F := Ideal) x3 (ix2 j o) = (rin x0 r0 x2 x3 x4 x5 x6 x7).v (2 * j.val + 1) o.val := by
  have e : val_main_v4 (F := Ideal) x3 (ix2 j o) = x3 (ix3 ⟨o.val / 512, by omega⟩ ⟨1 + 2 * j.val, by omega⟩ ⟨o.val % 512, by omega⟩) := by
    pointwise [val_main_v4, val_main_v2, val_main_v1]
  exact e.trans (rd3_eq _ _ _ _ rfl (Nat.add_comm _ _) rfl)

theorem r11 (b : Fin 12) (s : Fin 1024) (j : Fin 1792) :
    val_main_v11 (F := Ideal) x0 x3 x6 x7 (ix3 b s j) = (rin x0 r0 x2 x3 x4 x5 x6 x7).dx 18944 (1024 * b.val + s.val) (2 * j.val) := by
  have e : val_main_v11 (F := Ideal) x0 x3 x6 x7 (ix3 b s j) = ∑ o : Fin 18944, val_main_v10 (F := Ideal) x0 x6 x7 (ix3 b s o) * val_main_v3 (F := Ideal) x3 (ix2 j o) := by
    unfold val_main_v11
    pointwise
  rw [e]
  exact sum_fin _ _ _ fun o => congrArg₂ (· * ·) (r10 x0 r0 x2 x3 x4 x5 x6 x7 b s o) (r3 x0 r0 x2 x3 x4 x5 x6 x7 j o)

theorem r12 (b : Fin 12) (s : Fin 1024) (j : Fin 1792) :
    val_main_v12 (F := Ideal) x0 x3 x6 x7 (ix3 b s j) = (rin x0 r0 x2 x3 x4 x5 x6 x7).dx 18944 (1024 * b.val + s.val) (2 * j.val + 1) := by
  have e : val_main_v12 (F := Ideal) x0 x3 x6 x7 (ix3 b s j) = ∑ o : Fin 18944, val_main_v10 (F := Ideal) x0 x6 x7 (ix3 b s o) * val_main_v4 (F := Ideal) x3 (ix2 j o) := by
    unfold val_main_v12
    pointwise
  rw [e]
  exact sum_fin _ _ _ fun o => congrArg₂ (· * ·) (r10 x0 r0 x2 x3 x4 x5 x6 x7 b s o) (r4 x0 r0 x2 x3 x4 x5 x6 x7 j o)

theorem r15e (b : Fin 12) (s : Fin 1024) (j : Fin 1792) : val_main_v15 (F := Ideal) x0 x3 x6 x7 (ix4 b s j 0) = val_main_v11 (F := Ideal) x0 x3 x6 x7 (ix3 b s j) := by
  unfold val_main_v15
  refine (concatenate_pair_apply_left (s₁ := S12x1024x1792x1) (s₂ := S12x1024x1792x1) (t := S12x1024x1792x2) 3 _ _ _ (ix4 b s j 0) rfl (ix4 b s j 0) (fun a => match a with
    | ⟨0, _⟩ => rfl | ⟨1, _⟩ => rfl | ⟨2, _⟩ => rfl | ⟨3, _⟩ => rfl)).trans ?_
  pointwise [val_main_v13]

theorem r15o (b : Fin 12) (s : Fin 1024) (j : Fin 1792) : val_main_v15 (F := Ideal) x0 x3 x6 x7 (ix4 b s j 1) = val_main_v12 (F := Ideal) x0 x3 x6 x7 (ix3 b s j) := by
  unfold val_main_v15
  refine (concatenate_pair_apply_right (s₁ := S12x1024x1792x1) (s₂ := S12x1024x1792x1) (t := S12x1024x1792x2) 3 _ _ _ (ix4 b s j 1) rfl rfl (ix4 b s j 0) (fun a => match a with
    | ⟨0, _⟩ => fun _ => rfl | ⟨1, _⟩ => fun _ => rfl | ⟨2, _⟩ => fun _ => rfl | ⟨3, _⟩ => fun h => absurd rfl h) rfl).trans ?_
  pointwise [val_main_v14]

theorem cast16 (y : Vec Ideal S12x1024x1792x2 .f32) (b : Fin 12) (s : Fin 1024) (k : Fin 3584) :
    shapeCast S12x1024x3584 y shapeCasts_S12x1024x1792x2_S12x1024x3584 (ix3 b s k) = y (ix4 b s ⟨k.val / 2, by omega⟩ ⟨k.val % 2, by omega⟩) := by
  refine shapeCast_apply y shapeCasts_S12x1024x1792x2_S12x1024x3584 (ix3 b s k) (ix4 b s ⟨k.val / 2, by omega⟩ ⟨k.val % 2, by omega⟩) ?_
  rw [Shape.rowMajor_val_four, Shape.rowMajor_val_three]
  show ((b.val * 1024 + s.val) * 1792 + k.val / 2) * 2 + k.val % 2 = (b.val * 1024 + s.val) * 3584 + k.val
  omega

theorem r16 (b : Fin 12) (s : Fin 1024) (k : Fin 3584) :
    val_main_v16 (F := Ideal) x0 x3 x6 x7 (ix3 b s k) = (rin x0 r0 x2 x3 x4 x5 x6 x7).dx 18944 (1024 * b.val + s.val) k.val := by
  unfold val_main_v16
  rw [cast16]
  rcases Nat.mod_two_eq_zero_or_one k.val with h | h
  · rw [show (⟨k.val % 2, by omega⟩ : Fin 2) = 0 from Fin.ext h, r15e, r11 x0 r0 x2 x3 x4 x5 x6 x7]
    exact congrArg (fun x => (rin x0 r0 x2 x3 x4 x5 x6 x7).dx 18944 (1024 * b.val + s.val) x) (by show 2 * (k.val / 2) = k.val; omega)
  · rw [show (⟨k.val % 2, by omega⟩ : Fin 2) = 1 from Fin.ext h, r15o, r12 x0 r0 x2 x3 x4 x5 x6 x7]
    exact congrArg (fun x => (rin x0 r0 x2 x3 x4 x5 x6 x7).dx 18944 (1024 * b.val + s.val) x) (by show 2 * (k.val / 2) + 1 = k.val; omega)

theorem r17 (b : Fin 12) (s : Fin 1024) (k : Fin 3584) :
    val_main_v17 (F := Ideal) x0 x3 x6 x7 (ix3 b s k) = (rin x0 r0 x2 x3 x4 x5 x6 x7).dx 18944 (1024 * b.val + s.val) k.val := by
  rw [val_main_v17_apply, r16 x0 r0 x2 x3 x4 x5 x6 x7]
  rfl

theorem cast46 (y : Vec Ideal S12x1024x3584 .bf16) (n : Fin 12288) (k : Fin 3584) :
    shapeCast S12288x3584 y shapeCasts_S12x1024x3584_S12288x3584 (ix2 n k) = y (ix3 ⟨n.val / 1024, by omega⟩ ⟨n.val % 1024, by omega⟩ k) := by
  pointwise

/-- The input gradient. -/
theorem r46 (n : Fin 12288) (k : Fin 3584) :
    val_main_v46 (F := Ideal) x0 x3 x6 x7 (ix2 n k) = (rin x0 r0 x2 x3 x4 x5 x6 x7).dx 18944 n.val k.val := by
  refine (cast46 (val_main_v17 (F := Ideal) x0 x3 x6 x7) n k).trans ?_
  rw [r17 x0 r0 x2 x3 x4 x5 x6 x7]
  exact congrArg (fun x => (rin x0 r0 x2 x3 x4 x5 x6 x7).dx 18944 x k.val) (by show 1024 * (n.val / 1024) + n.val % 1024 = n.val; omega)

theorem r23 (b : Fin 12) (s : Fin 1024) (k : Fin 3584) :
    val_main_v23 (F := Ideal) x2 r0 (ix3 b s k) = (rin x0 r0 x2 x3 x4 x5 x6 x7).xh (1024 * b.val + s.val) k.val := by
  have e : val_main_v23 (F := Ideal) x2 r0 (ix3 b s k) = r0 (ix3 b s k) * x2 (ix3 b s ⟨k.val / 32, by omega⟩) := by
    pointwise [val_main_v23, val_main_v22, val_main_v21, val_main_v20, val_main_v19, val_main_v18]
  rw [e]
  exact congrArg₂ (· * ·) (rd3_eq _ _ _ _ (by omega) (by omega) rfl) (rd3_eq _ _ _ _ (by omega) (by omega) rfl)

theorem r24 (b : Fin 12) (s : Fin 1024) (j : Fin 1792) :
    val_main_v24 (F := Ideal) x2 r0 (ix3 b s j) = (rin x0 r0 x2 x3 x4 x5 x6 x7).xh (1024 * b.val + s.val) (2 * j.val) := by
  have e : val_main_v24 (F := Ideal) x2 r0 (ix3 b s j) = val_main_v23 (F := Ideal) x2 r0 (ix3 b s ⟨2 * j.val, by omega⟩) := by
    unfold val_main_v24
    pointwise
  exact e.trans (r23 x0 r0 x2 x3 x4 x5 x6 x7 b s _)

theorem r26 (b : Fin 12) (s : Fin 1024) (j : Fin 1792) :
    val_main_v26 (F := Ideal) x2 r0 (ix3 b s j) = (rin x0 r0 x2 x3 x4 x5 x6 x7).xh (1024 * b.val + s.val) (2 * j.val + 1) := by
  have e : val_main_v26 (F := Ideal) x2 r0 (ix3 b s j) = val_main_v23 (F := Ideal) x2 r0 (ix3 b s ⟨1 + 2 * j.val, by omega⟩) := by
    unfold val_main_v26
    pointwise
  exact (e.trans (r23 x0 r0 x2 x3 x4 x5 x6 x7 b s _)).trans (congrArg _ (Nat.add_comm _ _))

/-- The product of the activations with V: even and odd features apart, then together. -/
theorem r28 (b : Fin 12) (s : Fin 1024) (o : Fin 18944) :
    val_main_v28 (F := Ideal) x2 x3 r0 (ix3 b s o)
      = ∑ k ∈ Finset.range 3584, (rin x0 r0 x2 x3 x4 x5 x6 x7).xh (1024 * b.val + s.val) k * (rin x0 r0 x2 x3 x4 x5 x6 x7).v k o.val := by
  have e1 : val_main_v25 (F := Ideal) x2 x3 r0 (ix3 b s o) = ∑ j : Fin 1792, val_main_v24 (F := Ideal) x2 r0 (ix3 b s j) * val_main_v3 (F := Ideal) x3 (ix2 j o) := by
    unfold val_main_v25
    pointwise
  have e2 : val_main_v27 (F := Ideal) x2 x3 r0 (ix3 b s o) = ∑ j : Fin 1792, val_main_v26 (F := Ideal) x2 r0 (ix3 b s j) * val_main_v4 (F := Ideal) x3 (ix2 j o) := by
    unfold val_main_v27
    pointwise
  show val_main_v25 (F := Ideal) x2 x3 r0 (ix3 b s o) + val_main_v27 (F := Ideal) x2 x3 r0 (ix3 b s o) = _
  rw [e1, e2, ← sum_even_odd _ 1792]
  exact congrArg₂ (· + ·)
    (sum_fin (fun j => (rin x0 r0 x2 x3 x4 x5 x6 x7).xh (1024 * b.val + s.val) (2 * j) * (rin x0 r0 x2 x3 x4 x5 x6 x7).v (2 * j) o.val) _ _
      fun j => congrArg₂ (· * ·) (r24 x0 r0 x2 x3 x4 x5 x6 x7 b s j) (r3 x0 r0 x2 x3 x4 x5 x6 x7 j o))
    (sum_fin (fun j => (rin x0 r0 x2 x3 x4 x5 x6 x7).xh (1024 * b.val + s.val) (2 * j + 1) * (rin x0 r0 x2 x3 x4 x5 x6 x7).v (2 * j + 1) o.val) _ _
      fun j => congrArg₂ (· * ·) (r26 x0 r0 x2 x3 x4 x5 x6 x7 b s j) (r4 x0 r0 x2 x3 x4 x5 x6 x7 j o))

theorem r32 (b : Fin 12) (s : Fin 1024) (o : Fin 18944) :
    val_main_v32 (F := Ideal) x0 x2 x3 x7 r0 (ix3 b s o)
      = Ideal.div ((rin x0 r0 x2 x3 x4 x5 x6 x7).dmt (1024 * b.val + s.val) o.val) ((rin x0 r0 x2 x3 x4 x5 x6 x7).nm o.val) := by
  have e : val_main_v32 (F := Ideal) x0 x2 x3 x7 r0 (ix3 b s o) = Ideal.div (x0 (ix3 b s o) * val_main_v28 (F := Ideal) x2 x3 r0 (ix3 b s o)) (x7 (ix1 o)) := by
    pointwise [val_main_v32, val_main_v31, val_main_v30, val_main_v29, val_main_v6]
  rw [e, r28 x0 r0 x2 x3 x4 x5 x6 x7]
  exact congrArg₂ Ideal.div (congrArg (· * _) (rd3_eq _ _ _ _ (by omega) (by omega) rfl)) (rd1_eq _ _ rfl)

theorem r33 (o : Fin 18944) :
    val_main_v33 (F := Ideal) x0 x2 x3 x7 r0 (ix1 o)
      = ∑ n ∈ Finset.range 12288, Ideal.div ((rin x0 r0 x2 x3 x4 x5 x6 x7).dmt n o.val) ((rin x0 r0 x2 x3 x4 x5 x6 x7).nm o.val) := by
  unfold val_main_v33
  pointwise [val_main_cst]
  rw [hostReduceAdd_tok, zero_add]
  exact sum_tok _ _ fun b s => r32 x0 r0 x2 x3 x4 x5 x6 x7 b s o

/-- The magnitude gradient, divided token by token. -/
theorem r48 (o : Fin 18944) :
    val_main_v48 (F := Ideal) x0 x2 x3 x7 r0 (ix2 0 o)
      = ∑ n ∈ Finset.range 12288, Ideal.div ((rin x0 r0 x2 x3 x4 x5 x6 x7).dmt n o.val) ((rin x0 r0 x2 x3 x4 x5 x6 x7).nm o.val) := by
  have e : val_main_v48 (F := Ideal) x0 x2 x3 x7 r0 (ix2 0 o) = val_main_v33 (F := Ideal) x0 x2 x3 x7 r0 (ix1 o) := by
    unfold val_main_v48
    pointwise
  exact e.trans (r33 x0 r0 x2 x3 x4 x5 x6 x7 o)

theorem r35 (b : Fin 12) (s : Fin 1024) (q : Fin 16) :
    val_main_v35 (F := Ideal) x0 x5 x6 x7 (ix3 b s q) = (rin x0 r0 x2 x3 x4 x5 x6 x7).ht q.val (1024 * b.val + s.val) 18944 := by
  have e : val_main_v34 (F := Ideal) x0 x5 x6 x7 (ix3 b s q) = ∑ o : Fin 18944, val_main_v10 (F := Ideal) x0 x6 x7 (ix3 b s o) * x5 (ix2 q o) := by
    unfold val_main_v34
    pointwise
  refine e.trans (sum_fin _ _ _ fun o => ?_)
  rw [r10 x0 r0 x2 x3 x4 x5 x6 x7, mul_comm]
  exact congrArg (· * _) (rd2_eq _ _ _ rfl rfl)

theorem r36 (k : Fin 3584) (q : Fin 16) :
    val_main_v36 (F := Ideal) x0 x2 x5 x6 x7 r0 (ix2 k q) = (rin x0 r0 x2 x3 x4 x5 x6 x7).da 12288 q.val k.val := by
  have e : val_main_v36 (F := Ideal) x0 x2 x5 x6 x7 r0 (ix2 k q)
      = ∑ b : Fin 12, ∑ s : Fin 1024, val_main_v23 (F := Ideal) x2 r0 (ix3 b s k) * val_main_v35 (F := Ideal) x0 x5 x6 x7 (ix3 b s q) := by
    unfold val_main_v36
    pointwise
  refine e.trans (sum_tok _ _ fun b s => ?_)
  rw [r23 x0 r0 x2 x3 x4 x5 x6 x7, r35 x0 r0 x2 x3 x4 x5 x6 x7, mul_comm]

/-- The gradient of A, transposed. -/
theorem r47 (q : Fin 16) (k : Fin 3584) :
    val_main_v47 (F := Ideal) x0 x2 x5 x6 x7 r0 (ix2 q k) = Ideal.ofBits .f32 0x3F000000#32 * (rin x0 r0 x2 x3 x4 x5 x6 x7).da 12288 q.val k.val := by
  have e : val_main_v47 (F := Ideal) x0 x2 x5 x6 x7 r0 (ix2 q k) = val_main_v38 (F := Ideal) x0 x2 x5 x6 x7 r0 (ix2 k q) := by
    pointwise [val_main_v47, val_main_v39]
  refine e.trans ?_
  show val_main_v37 (F := Ideal) (ix2 k q) * val_main_v36 (F := Ideal) x0 x2 x5 x6 x7 r0 (ix2 k q) = _
  rw [r36 x0 r0 x2 x3 x4 x5 x6 x7]
  rfl

theorem r41 (b : Fin 12) (s : Fin 1024) (q : Fin 16) :
    val_main_v41 (F := Ideal) x2 x4 r0 (ix3 b s q) = (rin x0 r0 x2 x3 x4 x5 x6 x7).xat q.val (1024 * b.val + s.val) := by
  have e : val_main_v40 (F := Ideal) x2 x4 r0 (ix3 b s q) = ∑ k : Fin 3584, val_main_v23 (F := Ideal) x2 r0 (ix3 b s k) * x4 (ix2 k q) := by
    unfold val_main_v40
    pointwise
  refine e.trans (sum_fin _ _ _ fun k => ?_)
  rw [r23 x0 r0 x2 x3 x4 x5 x6 x7, mul_comm]
  exact congrArg (· * _) (rd2_eq _ _ _ rfl rfl)

theorem r42 (q : Fin 16) (o : Fin 18944) :
    val_main_v42 (F := Ideal) x0 x2 x4 x6 x7 r0 (ix2 q o) = (rin x0 r0 x2 x3 x4 x5 x6 x7).db 12288 q.val o.val := by
  have e : val_main_v42 (F := Ideal) x0 x2 x4 x6 x7 r0 (ix2 q o)
      = ∑ b : Fin 12, ∑ s : Fin 1024, val_main_v41 (F := Ideal) x2 x4 r0 (ix3 b s q) * val_main_v10 (F := Ideal) x0 x6 x7 (ix3 b s o) := by
    unfold val_main_v42
    pointwise
  refine e.trans (sum_tok _ _ fun b s => ?_)
  rw [r41 x0 r0 x2 x3 x4 x5 x6 x7, r10 x0 r0 x2 x3 x4 x5 x6 x7]

/-- The gradient of B. -/
theorem r45 (q : Fin 16) (o : Fin 18944) :
    val_main_v45 (F := Ideal) x0 x2 x4 x6 x7 r0 (ix2 q o) = Ideal.ofBits .f32 0x3F000000#32 * (rin x0 r0 x2 x3 x4 x5 x6 x7).db 12288 q.val o.val := by
  show val_main_v43 (F := Ideal) (ix2 q o) * val_main_v42 (F := Ideal) x0 x2 x4 x6 x7 r0 (ix2 q o) = _
  rw [r42 x0 r0 x2 x3 x4 x5 x6 x7]
  rfl

/-! ### The division -/

/-- A division by a positive divisor, of a sum. -/
theorem div_sum (m : ℕ) (f : ℕ → EReal) (y : EReal) (hy : 0 < y) :
    Ideal.div (∑ i ∈ Finset.range m, f i) y = ∑ i ∈ Finset.range m, Ideal.div (f i) y := by
  have h0 : 0 ≤ y⁻¹ := EReal.inv_nonneg_of_nonneg hy.le
  have ht : y⁻¹ ≠ ⊤ := by
    intro h
    induction y with
    | bot => simp at hy
    | top => simp at h
    | coe r => exact absurd h (by rw [← EReal.coe_inv]; exact EReal.coe_ne_top _)
  have e : ∀ x : EReal, Ideal.div x y = x * y⁻¹ := fun x => if_neg hy.ne'
  simp only [e]
  induction m with
  | zero => simp
  | succ m ih => rw [Finset.sum_range_succ, Finset.sum_range_succ, EReal.right_distrib_of_nonneg_of_ne_top h0 ht, ih]

/-- Token tile by token tile or token by token: the same, where the norm is positive. -/
theorem dm_eq (I : In) (o : ℕ) (h : 0 < I.nm o) : I.dm 12 o = ∑ n ∈ Finset.range 12288, Ideal.div (I.dmt n o) (I.nm o) := by
  unfold In.dm
  rw [← sum_tiles (fun n => Ideal.div (I.dmt n o) (I.nm o)) 1024 12]
  exact Finset.sum_congr rfl fun i _ => div_sum 1024 (fun r => I.dmt (1024 * i + r) o) _ h

end Cert.ReferenceIdeal.Hand
-- ==== Proof.KReg.lean ====
/-
  The reference's widened codes: the array its small kernel leaves is the argument itself.
-/
module

public import proofs.«01_k».proof.Proof.Gen.ReferenceIdeal.Read
public import Idealize.ShloMosaic.Lib.Pipeline.Value
public import Idealize.ShloMosaic.Lib.Pointwise

@[expose] public section

set_option maxRecDepth 16384

noncomputable section

namespace Cert.ReferenceIdeal.Hand

open Idealize.ShloMosaic Idealize.ShloMosaic.TcCoe Idealize.ShloMosaic.Pointwise
open Cert.ReferenceIdeal Cert.ReferenceIdeal.Gen Cert.ReferenceIdeal.Value

variable (m : (ℓ : Loc nD τ sig) → Buf (Elt Ideal) ℓ)

theorem ri0 : ∀ t : Fin grid0.N, win0_0.index t = ![0, 0, 0] := by decide +kernel
theorem ri1 : ∀ t : Fin grid0.N, win0_1.index t = ![0, 0, 0] := by decide +kernel

/-- The one block of the output window is the whole array. -/
theorem emb1 (t : Fin cfg0.N) (y : S12x1024x3584.Idx) : ((cfg0.win 1).blk t).view.emb y = y := by
  have h := ri1 t
  have h0 : win0_1.index t 0 = 0 := congrFun h 0
  have h1 : win0_1.index t 1 = 0 := congrFun h 1
  have h2 : win0_1.index t 2 = 0 := congrFun h 2
  funext a; apply Fin.ext
  match a with
  | ⟨0, _⟩ => show win0_1.index t 0 * 12 + 1 * (y 0).val = (y 0).val; rw [h0]; omega
  | ⟨1, _⟩ => show win0_1.index t 1 * 1024 + 1 * (y 1).val = (y 1).val; rw [h1]; omega
  | ⟨2, _⟩ => show win0_1.index t 2 * 3584 + 1 * (y 2).val = (y 2).val; rw [h2]; omega

/-- The one block of the input window is the whole argument. -/
theorem iblk0 (c : Dev nD) (t : Fin cfg0.N) : (iblk m c 0 t : Vec Ideal S12x1024x3584 .fp8e4m3) = m ((c : Thread nD τ).loc main_arg1) := by
  have h := ri0 t
  have h0 : win0_0.index t 0 = 0 := congrFun h 0
  have h1 : win0_0.index t 1 = 0 := congrFun h 1
  have h2 : win0_0.index t 2 = 0 := congrFun h 2
  funext y
  unfold iblk; rw [View.read_apply]
  show V m c main_arg1 _ = V m c main_arg1 _
  congr 1
  funext a; apply Fin.ext
  match a with
  | ⟨0, _⟩ => show win0_0.index t 0 * 12 + 1 * (y 0).val = (y 0).val; rw [h0]; omega
  | ⟨1, _⟩ => show win0_0.index t 1 * 1024 + 1 * (y 1).val = (y 1).val; rw [h1]; omega
  | ⟨2, _⟩ => show win0_0.index t 2 * 3584 + 1 * (y 2).val = (y 2).val; rw [h2]; omega

theorem z3 : ∀ a : Fin S12x1024x3584.rank, (![0, 0, 0] : Fin 3 → ℕ) a = 0 := by decide

theorem out_id (x : Vec Ideal S12x1024x3584 .fp8e4m3) : out0_1 x = x := by
  unfold out0_1
  rw [View.canon_cons_unit_zero (S := S12x1024x3584) (funext z3), View.ld_unit_zero (S := S12x1024x3584) (funext z3)]
  rfl

/-- Every index lies in the one block. -/
theorem mem1 (t : Fin cfg0.N) (i : S12x1024x3584.Idx) : i ∈ ((cfg0.win 1).blk t).view.set := by
  show i ∈ ((View.whole main_v0).slice (win0_1.rect t)).set
  rw [View.set_slice_whole, Rect.mem_set_unit]
  intro a
  have h := ri1 t
  have h0 : win0_1.index t 0 = 0 := congrFun h 0
  have h1 : win0_1.index t 1 = 0 := congrFun h 1
  have h2 : win0_1.index t 2 = 0 := congrFun h 2
  have i0 : (i 0).val < 12 := (i 0).isLt
  have i1 : (i 1).val < 1024 := (i 1).isLt
  have i2 : (i 2).val < 3584 := (i 2).isLt
  match a with
  | ⟨0, _⟩ => show win0_1.index t 0 * 12 ≤ (i 0).val ∧ (i 0).val < win0_1.index t 0 * 12 + 12; rw [h0]; omega
  | ⟨1, _⟩ => show win0_1.index t 1 * 1024 ≤ (i 1).val ∧ (i 1).val < win0_1.index t 1 * 1024 + 1024; rw [h1]; omega
  | ⟨2, _⟩ => show win0_1.index t 2 * 3584 ≤ (i 2).val ∧ (i 2).val < win0_1.index t 2 * 3584 + 3584; rw [h2]; omega

/-- The array the small kernel leaves. -/
theorem reg_eq (c : Dev nD) : reg_main_v0 m c = m ((c.tc : Thread nD τ).loc main_arg1) := by
  unfold reg_main_v0
  refine (Gen.dats m 0 c).arrAt_eq_of_cover 1 (m ((c.tc : Thread nD τ).loc main_arg1)) (fun t hf => ?_) (fun i => ?_)
  · show (cfg0.win 1).cut (grid0.coords t) ((dats m 0 c).after 1 t) = _
    rw [after0_1, out_id, iblk0]
    funext y
    rw [View.read_apply]
    exact congrArg (m ((c.tc : Thread nD τ).loc main_arg1)) (emb1 t y).symm
  · refine ⟨⟨0, by decide⟩, flush0_1 _, ?_⟩
    exact mem1 _ i

end Cert.ReferenceIdeal.Hand
-- ==== Proof.KMask.lean ====
/-
  What the mask of the weight norm says.
-/
module

public import proofs.«01_k».proof.Proof.Gen.On_positive_norm
public import Idealize.ShloMosaic.Lib.Pointwise

@[expose] public section

set_option maxRecDepth 16384

noncomputable section

namespace Cert.On_positive_norm.Hand

open Idealize.ShloMosaic Idealize.ShloMosaic.TcCoe Idealize.ShloMosaic.Pointwise
open Cert.On_positive_norm Cert.On_positive_norm.Gen

/-- Where the mask is on for `dm`, the norm of the column is positive. -/
theorem mask_pos (a0 : FVec Ideal S12x1024x18944 .bf16) (a1 : FVec Ideal S12x1024x3584 .fp8e4m3) (a2 : FVec Ideal S12x1024x112 .f32) (a3 : FVec Ideal S37x3584x512 .bf16)
    (a4 : FVec Ideal S3584x16 .bf16) (a5 : FVec Ideal S16x18944 .bf16) (a6 : FVec Ideal S18944 .f32) (a7 : FVec Ideal S18944 .f32) (o : Fin 18944)
    (h : (fn (F := Ideal) a0 a1 a2 a3 a4 a5 a6 a7).2.2.2 (ix2 0 o) = 1#1) : 0 < a7 (ix1 o) := by
  have e : (fn (F := Ideal) a0 a1 a2 a3 a4 a5 a6 a7).2.2.2 (ix2 0 o) = FloatOps.cmpf (F := Ideal) (φ := .f32) .ogt (a7 (ix1 o)) (Ideal.ofBits .f32 0x00000000#32) := by
    unfold fn
    dsimp only
    pointwise
  rw [e, Ideal.ofBits_zero] at h
  change BitVec.ofBool (decide ((0 : EReal) < a7 (ix1 o))) = 1#1 at h
  by_contra hn
  rw [decide_eq_false hn] at h
  exact absurd h (by decide)

end Cert.On_positive_norm.Hand
-- ==== Proof.KAlg.lean ====
/-
  The kernel and the reference leave the same four results.
-/
module

public import proofs.«01_k».proof.Defs
public import proofs.«01_k».proof.Proof.KMain
public import proofs.«01_k».proof.Proof.KRef
public import proofs.«01_k».proof.Proof.KReg
public import proofs.«01_k».proof.Proof.KMask

@[expose] public section

set_option maxRecDepth 16384

noncomputable section

namespace Cert.Hand

open Idealize.ShloMosaic Idealize.ShloMosaic.TcCoe Idealize.ShloMosaic.Pointwise Idealize.SL.Sem

/-- The arguments a memory of the reference holds. -/
abbrev rmem (m : (ℓ : Loc Cert.ReferenceIdeal.nD Cert.ReferenceIdeal.τ Cert.ReferenceIdeal.sig) → Buf (Elt Ideal) ℓ) (c : Dev Cert.ReferenceIdeal.nD) : In :=
  inp (m (c.tc.loc Cert.ReferenceIdeal.main_arg0)) (m (c.tc.loc Cert.ReferenceIdeal.main_arg1)) (m (c.tc.loc Cert.ReferenceIdeal.main_arg2)) (m (c.tc.loc Cert.ReferenceIdeal.main_arg3))
    (m (c.tc.loc Cert.ReferenceIdeal.main_arg4)) (m (c.tc.loc Cert.ReferenceIdeal.main_arg5)) (m (c.tc.loc Cert.ReferenceIdeal.main_arg6)) (m (c.tc.loc Cert.ReferenceIdeal.main_arg7))

section Ref
open Cert.ReferenceIdeal Cert.ReferenceIdeal.Gen Cert.ReferenceIdeal.Value Cert.ReferenceIdeal.Read

variable (m : (ℓ : Loc nD τ sig) → Buf (Elt Ideal) ℓ) (ρ : Dev nD → PrngReg)

/-- The reference's run, its four results read as sums over the arguments. -/
theorem ref_run : θ_run defs (onTc (τ := τ) (main (F := Ideal))) ⟨m, fun _ => 0, ρ⟩ fun r => ∀ c : Dev nD,
    ((∀ n k, (r.2.mem ((c.tc : Thread nD τ).loc main_v46) : S12288x3584.Idx → EReal) (ix2 n k) = (rmem m c).dx 18944 n k)
    ∧ (∀ q k, (r.2.mem ((c.tc : Thread nD τ).loc main_v47) : S16x3584.Idx → EReal) (ix2 q k) = Ideal.ofBits .f32 0x3F000000#32 * (rmem m c).da 12288 q k)
    ∧ (∀ q o, (r.2.mem ((c.tc : Thread nD τ).loc main_v45) : S16x18944.Idx → EReal) (ix2 q o) = Ideal.ofBits .f32 0x3F000000#32 * (rmem m c).db 12288 q o)
    ∧ (∀ o : Fin 18944, 0 < (rmem m c).nm o → (r.2.mem ((c.tc : Thread nD τ).loc main_v48) : S1x18944.Idx → EReal) (ix2 0 o) = (rmem m c).dm 12 o))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.ReferenceIdeal.Value.run m ρ)
  obtain ⟨h46, h47, h45, h48, hargs⟩ := h c
  have e46 := val_main_v46_eq (exitV m c)
  have e47 := val_main_v47_eq (exitV m c)
  have e45 := val_main_v45_eq (exitV m c)
  have e48 := val_main_v48_eq (exitV m c)
  rw [exit_main_arg0, exit_main_arg3, exit_main_arg6, exit_main_arg7] at e46
  rw [exit_main_arg0, exit_main_arg2, exit_main_arg5, exit_main_arg6, exit_main_arg7, exit_main_v0] at e47
  rw [exit_main_arg0, exit_main_arg2, exit_main_arg4, exit_main_arg6, exit_main_arg7, exit_main_v0] at e45
  rw [exit_main_arg0, exit_main_arg2, exit_main_arg3, exit_main_arg7, exit_main_v0] at e48
  refine ⟨⟨fun n k => ?_, fun q k => ?_, fun q o => ?_, fun o ho => ?_⟩, hargs⟩
  · rw [h46.trans e46]
    exact Cert.ReferenceIdeal.Hand.r46 _ (m (c.tc.loc main_arg1)) (m (c.tc.loc main_arg2)) _ (m (c.tc.loc main_arg4)) (m (c.tc.loc main_arg5)) _ _ n k
  · rw [h47.trans e47, Cert.ReferenceIdeal.Hand.reg_eq]
    exact Cert.ReferenceIdeal.Hand.r47 _ (m (c.tc.loc main_arg1)) _ (m (c.tc.loc main_arg3)) (m (c.tc.loc main_arg4)) _ _ _ q k
  · rw [h45.trans e45, Cert.ReferenceIdeal.Hand.reg_eq]
    exact Cert.ReferenceIdeal.Hand.r45 _ (m (c.tc.loc main_arg1)) _ (m (c.tc.loc main_arg3)) _ (m (c.tc.loc main_arg5)) _ _ q o
  · rw [h48.trans e48, Cert.ReferenceIdeal.Hand.reg_eq, Cert.ReferenceIdeal.Hand.dm_eq _ _ ho]
    exact Cert.ReferenceIdeal.Hand.r48 _ (m (c.tc.loc main_arg1)) _ _ (m (c.tc.loc main_arg4)) (m (c.tc.loc main_arg5)) (m (c.tc.loc main_arg6)) _ o

end Ref

/-- The claim about the main kernel. -/
theorem algebraic : Cert.algebraic_KernelIdeal_ReferenceIdeal_on_positive_norm := by
  intro m g m' g' _ hag
  have hr : ∀ c : Dev Cert.KernelIdeal.nD, rmem m' c = Cert.KernelIdeal.Hand.kin m c := by
    intro c
    obtain ⟨h0, h1, h2, h3, h4, h5, h6, h7⟩ := hag c
    unfold rmem Cert.KernelIdeal.Hand.kin
    rw [h0, h1, h2, h3, h4, h5, h6, h7]
  refine ⟨fun c => Cert.KernelIdeal.Value.G8 m c, fun c => Cert.KernelIdeal.Value.G9 m c, fun c => Cert.KernelIdeal.Value.G10 m c, fun c => Cert.KernelIdeal.Value.G11 m c, ?_, ?_⟩
  · refine (θ_run _ _ _).mono (fun r h c => ?_) (Cert.KernelIdeal.Value.run m g)
    obtain ⟨h8, h9, h10, h11, hargs⟩ := h c
    exact ⟨fun i _ => congrFun h8 i, fun i _ => congrFun h9 i, fun i _ => congrFun h10 i, fun i _ => congrFun h11 i, hargs⟩
  · refine (θ_run _ _ _).mono (fun r h c => ?_) (ref_run m' g')
    obtain ⟨⟨e8, e9, e10, e11⟩, hargs⟩ := h c
    rw [hr c] at e8 e9 e10 e11
    refine ⟨fun i _ => ?_, fun i _ => ?_, fun i _ => ?_, fun i hi => ?_, hargs⟩
    · rw [ValueIdx.eq_ix2 i]
      exact (e8 _ _).trans (Cert.KernelIdeal.Hand.G8_apply m c _ _).symm
    · rw [ValueIdx.eq_ix2 i]
      exact (e9 _ _).trans (Cert.KernelIdeal.Hand.G9_apply m c _ _).symm
    · rw [ValueIdx.eq_ix2 i]
      exact (e10 _ _).trans (Cert.KernelIdeal.Hand.G10_apply m c _ _).symm
    · have i0 : i 0 = (0 : Fin 1) := Fin.ext (by have : (i 0).val < 1 := (i 0).isLt; show (i 0).val = 0; omega)
      have ie : i = ix2 (0 : Fin 1) (i 1 : Fin 18944) := by rw [ValueIdx.eq_ix2 i, i0]; rfl
      rw [ie] at hi ⊢
      have hp := Cert.On_positive_norm.Hand.mask_pos _ _ _ _ _ _ _ _ _ hi
      have hp' : 0 < (Cert.KernelIdeal.Hand.kin m c).nm (i 1 : Fin 18944).val := by
        have := rd1_eq (m (c.tc.loc Cert.KernelIdeal.main_arg7)) (i 1 : Fin 18944) rfl
        unfold Cert.KernelIdeal.Hand.kin inp
        exact lt_of_lt_of_eq hp this
      exact (e11 _ hp').trans (Cert.KernelIdeal.Hand.G11_apply m c _).symm

end Cert.Hand
-- ==== Proof.VPay.lean ====
/-
  What one trip of the weight kernel stores, element by element.
-/
module

public import proofs.«01_k».proof.Proof.Gen.BuildVIdeal.Value
public import Idealize.ShloMosaic.Lib.Pointwise

@[expose] public section

set_option maxRecDepth 16384

noncomputable section

namespace Cert.BuildVIdeal.Hand

open Idealize.ShloMosaic Idealize.ShloMosaic.TcCoe Idealize.ShloMosaic.Pointwise
open Cert.BuildVIdeal Cert.BuildVIdeal.Gen
open scoped BigOperators

/-- A stored field of a packed byte, shifted up to the top and back down with its sign. -/
def fld (s : BitVec 32) (x : BitVec 8) : EReal := FloatOps.sitofp (F := Ideal) .f32 (IntOp.shrsi .vector (IntOp.shli .vector (x.setWidth 32) s) 28#32)

theorem pay4_apply (b : Vec Ideal S16x512 .bf16) (q : Vec Ideal S1x64x512 .i8) (s : Vec Ideal S1x512 .f32) (a : Vec Ideal S64x16 .bf16) (r : Fin 64) (o : Fin 512) :
    k0_pay4 (F := Ideal) b q s a (ix2 r o)
      = fld 28#32 (q (ix3 0 r o)) * s (ix2 0 o) + Ideal.ofBits .f32 0x3F000000#32 * ∑ k : Fin 16, a (ix2 r k) * b (ix2 k o) := by
  pointwise [k0_pay4, k0_pay3]
  rfl

theorem pay5_apply (b : Vec Ideal S16x512 .bf16) (q : Vec Ideal S1x64x512 .i8) (s : Vec Ideal S1x512 .f32) (a : Vec Ideal S64x16 .bf16) (r : Fin 64) (o : Fin 512) :
    k0_pay5 (F := Ideal) b q s a (ix2 r o)
      = fld 24#32 (q (ix3 0 r o)) * s (ix2 0 o) + Ideal.ofBits .f32 0x3F000000#32 * ∑ k : Fin 16, a (ix2 r k) * b (ix2 k o) := by
  pointwise [k0_pay5, k0_pay3]
  rfl

theorem pay2_apply (lo hi : FVec Ideal S64x512 .bf16) (r : Fin 128) (o : Fin 512) :
    k0_pay2 (F := Ideal) lo hi (ix3 0 r o) = if r.val % 2 = 0 then lo (ix2 ⟨r.val / 2, by omega⟩ o) else hi (ix2 ⟨r.val / 2, by omega⟩ o) := by
  pointwise [k0_pay2]

theorem pay1_apply (s : Vec Ideal S28x512 .bf16) : k0_pay1 (F := Ideal) s = s := by
  funext y
  pointwise [k0_pay1]

theorem off1_eq : ∀ k : Fin k0_t1_loop.trips, k0_off1 k = ![k.val, 0, 0] := by decide +kernel
theorem off2_eq : ∀ k : Fin k0_t1_loop.trips, k0_off2 k = ![k.val, 0] := by decide +kernel
theorem off3_eq : ∀ k : Fin k0_t1_loop.trips, k0_off3 k = ![64 * k.val, 0] := by decide +kernel
theorem off4_eq : ∀ k : Fin k0_t1_loop.trips, k0_off4 k = ![0, 128 * k.val, 0] := by decide +kernel

end Cert.BuildVIdeal.Hand
-- ==== Proof.VBlk.lean ====
/-
  What the weight kernel leaves in one column block, element by element.
-/
module

public import proofs.«01_k».proof.Proof.VPay
public import Idealize.ShloMosaic.Lib.Pipeline.ReadBack
public import Idealize.ShloMosaic.Lib.Tactic
public import Idealize.ShloMosaic.Lib.WritesUnit

@[expose] public section

set_option maxRecDepth 16384

noncomputable section

namespace Cert.BuildVIdeal.Hand

open Idealize.ShloMosaic Idealize.ShloMosaic.TcCoe Idealize.ShloMosaic.Pointwise
open Cert.BuildVIdeal Cert.BuildVIdeal.Gen
open scoped BigOperators

/-- Row `r` of a block: the even rows come from the low fields, the odd ones from the high fields. -/
def vrow (x0 : Vec Ideal S28x64x512 .i8) (x1 : Vec Ideal S28x512 .bf16) (x2 x3 : Vec Ideal S1792x16 .bf16) (x4 : Vec Ideal S16x512 .bf16) (r : Fin 3584) (o : Fin 512) : EReal :=
  if r.val % 2 = 0 then
    fld 28#32 (x0 (ix3 ⟨r.val / 128, by omega⟩ ⟨r.val % 128 / 2, by omega⟩ o)) * x1 (ix2 ⟨r.val / 128, by omega⟩ o)
      + Ideal.ofBits .f32 0x3F000000#32 * ∑ k : Fin 16, x2 (ix2 ⟨r.val / 2, by omega⟩ k) * x4 (ix2 k o)
  else
    fld 24#32 (x0 (ix3 ⟨r.val / 128, by omega⟩ ⟨r.val % 128 / 2, by omega⟩ o)) * x1 (ix2 ⟨r.val / 128, by omega⟩ o)
      + Ideal.ofBits .f32 0x3F000000#32 * ∑ k : Fin 16, x3 (ix2 ⟨r.val / 2, by omega⟩ k) * x4 (ix2 k o)

/-- The block. -/
def VB (x0 : Vec Ideal S28x64x512 .i8) (x1 : Vec Ideal S28x512 .bf16) (x2 x3 : Vec Ideal S1792x16 .bf16) (x4 : Vec Ideal S16x512 .bf16) : Vec Ideal S1x3584x512 .bf16 :=
  fun y => vrow x0 x1 x2 x3 x4 (y 1) (y 2)

theorem load_q {a : Memref sig .tc .vmem S28x64x512 .i8} (ha : a.IsWhole) (x : Vec Ideal S28x64x512 .i8) (k : Fin k0_t1_loop.trips)
    (inb : ∀ d, k0_off1 k d + S1x64x512.size d ≤ S28x64x512.size d) (r : Fin 64) (o : Fin 512) :
    View.readAt (Elt Ideal) a.view (Rect.unit (s := S28x64x512) (k0_off1 k) S1x64x512.size inb).toLoadRect (ha.unread x) (ix3 0 r o) = x (ix3 ⟨k.val, k.isLt⟩ r o) := by
  have h := off1_eq k
  generalize k0_off1 k = off at h inb
  subst h
  rw [View.readAt_eq_ld, ha.read_unread, View.ld_unit]
  pointwise

theorem load_s {a : Memref sig .tc .vmem S28x512 .f32} (f : a.view.ty.Contents (Elt Ideal)) (k : Fin k0_t1_loop.trips)
    (inb : ∀ d, k0_off2 k d + S1x512.size d ≤ S28x512.size d) (o : Fin 512) :
    View.readAt (Elt Ideal) a.view (Rect.unit (s := S28x512) (k0_off2 k) S1x512.size inb).toLoadRect f (ix2 0 o) = a.view.read (Elt Ideal) f (ix2 ⟨k.val, k.isLt⟩ o) := by
  have h := off2_eq k
  generalize k0_off2 k = off at h inb
  subst h
  rw [View.readAt_eq_ld, View.ld_unit]
  generalize a.view.read (Elt Ideal) f = x
  pointwise

theorem load_a {a : Memref sig .tc .vmem S1792x16 .bf16} (ha : a.IsWhole) (x : Vec Ideal S1792x16 .bf16) (k : Fin k0_t1_loop.trips)
    (inb : ∀ d, k0_off3 k d + S64x16.size d ≤ S1792x16.size d) (r : Fin 64) (j : Fin 16) :
    View.readAt (Elt Ideal) a.view (Rect.unit (s := S1792x16) (k0_off3 k) S64x16.size inb).toLoadRect (ha.unread x) (ix2 r j)
      = x (ix2 ⟨64 * k.val + r.val, by have : k.val < 28 := k.isLt; omega⟩ j) := by
  have h := off3_eq k
  generalize k0_off3 k = off at h inb
  subst h
  rw [View.readAt_eq_ld, ha.read_unread, View.ld_unit]
  pointwise

/-- A stored block of 128 rows whose elements are the rows' is a block of `VB`. -/
theorem piece_ok (k : Nat) (hk : k < 28) (x0 : Vec Ideal S28x64x512 .i8) (x1 : Vec Ideal S28x512 .bf16) (x2 x3 : Vec Ideal S1792x16 .bf16) (x4 : Vec Ideal S16x512 .bf16)
    (off : Fin 3 → Nat) (inb : ∀ d, off d + S1x128x512.size d ≤ S1x3584x512.size d) (w : S1x128x512.Idx → Elt Ideal .bf16) (hoff : off = ![0, 128 * k, 0])
    (hw : ∀ (r : Fin 128) (o : Fin 512), w (ix3 0 r o) = vrow x0 x1 x2 x3 x4 ⟨128 * k + r.val, by omega⟩ o)
    (x : S1x128x512.Idx) : w x = VB x0 x1 x2 x3 x4 ((Rect.unit (s := S1x3584x512) off S1x128x512.size inb).emb x) := by
  subst hoff
  have x0' : x 0 = (0 : Fin 1) := Fin.ext (by have : (x 0).val < 1 := (x 0).isLt; show (x 0).val = 0; omega)
  obtain ⟨r, o, rfl⟩ : ∃ (r : Fin 128) (o : Fin 512), x = ix3 (0 : Fin 1) r o := ⟨x 1, x 2, by rw [ValueIdx.eq_ix3 x, x0']; rfl⟩
  rw [hw]
  unfold VB
  congr 1
  · apply Fin.ext; show 128 * k + r.val = 128 * k + 1 * r.val; omega
  · apply Fin.ext; show o.val = 0 + 1 * o.val; omega

/-- The row a trip stores. -/
theorem trip_row (x0 : Vec Ideal S28x64x512 .i8) (x1 : Vec Ideal S28x512 .bf16) (x2 x3 : Vec Ideal S1792x16 .bf16) (x4 : Vec Ideal S16x512 .bf16) (k : Nat) (hk : k < 28)
    (q : Vec Ideal S1x64x512 .i8) (s : Vec Ideal S1x512 .f32) (a2 a3 : Vec Ideal S64x16 .bf16)
    (hq : ∀ r o, q (ix3 0 r o) = x0 (ix3 ⟨k, hk⟩ r o)) (hs : ∀ o, s (ix2 0 o) = x1 (ix2 ⟨k, hk⟩ o))
    (h2 : ∀ (r : Fin 64) j, a2 (ix2 r j) = x2 (ix2 ⟨64 * k + r.val, by omega⟩ j)) (h3 : ∀ (r : Fin 64) j, a3 (ix2 r j) = x3 (ix2 ⟨64 * k + r.val, by omega⟩ j))
    (r : Fin 128) (o : Fin 512) :
    k0_pay2 (F := Ideal) (k0_pay4 x4 q s a2) (k0_pay5 x4 q s a3) (ix3 0 r o) = vrow x0 x1 x2 x3 x4 ⟨128 * k + r.val, by omega⟩ o := by
  have e1 : (⟨k, hk⟩ : Fin 28) = ⟨(128 * k + r.val) / 128, by omega⟩ := Fin.ext (by show k = (128 * k + r.val) / 128; omega)
  have e2 : (⟨r.val / 2, by omega⟩ : Fin 64) = ⟨(128 * k + r.val) % 128 / 2, by omega⟩ := Fin.ext (by show r.val / 2 = (128 * k + r.val) % 128 / 2; omega)
  have e3 : (⟨64 * k + (128 * k + r.val) % 128 / 2, by omega⟩ : Fin 1792) = ⟨(128 * k + r.val) / 2, by omega⟩ := Fin.ext (by show 64 * k + (128 * k + r.val) % 128 / 2 = (128 * k + r.val) / 2; omega)
  rw [pay2_apply, pay4_apply, pay5_apply, hq, hs, e1, e2]
  unfold vrow
  have hm : (128 * k + r.val) % 2 = r.val % 2 := by omega
  dsimp only
  rw [hm]
  congr 1
  · refine congrArg (fun z => _ + _ * z) (Finset.sum_congr rfl fun j _ => ?_)
    rw [h2]
    exact congrArg (fun z => x2 (ix2 z j) * _) e3
  · refine congrArg (fun z => _ + _ * z) (Finset.sum_congr rfl fun j _ => ?_)
    rw [h3]
    exact congrArg (fun z => x3 (ix2 z j) * _) e3

/-- Every piece one trip stores is a block of `VB`. -/
theorem trip_pieces (𝒱 : Variants) (c : Dev nD) (bd : Option 𝒱.V) (i : grid0.Coords) (arg1 : Memref sig .tc .vmem S28x64x512 .i8) (harg1 : arg1.IsWhole) (arg2 : Memref sig .tc .vmem S28x512 .bf16) (harg2 : arg2.IsWhole) (arg3 : Memref sig .tc .vmem S1792x16 .bf16) (harg3 : arg3.IsWhole) (arg4 : Memref sig .tc .vmem S1792x16 .bf16) (harg4 : arg4.IsWhole) (arg5 : Memref sig .tc .vmem S16x512 .bf16) (harg5 : arg5.IsWhole) (arg6 : Memref sig .tc .vmem S1x3584x512 .bf16) (harg6 : arg6.IsWhole) (arg7 : Memref sig .tc .vmem S28x512 .f32) (harg7 : arg7.IsWhole)
    (x0 : Vec Ideal S28x64x512 .i8) (x1 : Vec Ideal S28x512 .bf16) (x2 x3 : Vec Ideal S1792x16 .bf16) (x4 : Vec Ideal S16x512 .bf16)
    (f7 : BufTy.Contents (Elt Ideal) arg7.view.ty) (h7 : arg7.view.read (Elt Ideal) f7 = x1) (k : Fin k0_t1_loop.trips) :
    View.PiecesOf (VB x0 x1 x2 x3 x4) (tripL_k0_t1 (F := Ideal) 𝒱 c bd i arg1 harg1 arg2 harg2 arg3 harg3 arg4 harg4 arg5 harg5 arg6 harg6 arg7 harg7 x4 (harg1.unread x0) (harg3.unread x2) (harg4.unread x3) f7 k) := by
  have hk : k.val < 28 := k.isLt
  unfold tripL_k0_t1 trip_k0_t1
  dsimp only
  sl_unfold_words
  dsimp only
  refine ⟨fun x => ?_, trivial⟩
  exact piece_ok k.val hk x0 x1 x2 x3 x4 _ (k0_off4_inb k) _ (off4_eq k)
    (trip_row x0 x1 x2 x3 x4 k.val hk _ _ _ _ (load_q harg1 x0 k (k0_off1_inb k)) (fun o => (load_s (a := arg7) f7 k (k0_off2_inb k) o).trans (by rw [h7]))
      (load_a harg3 x2 k (k0_off3_inb k)) (load_a harg4 x3 k (k0_off3_inb k))) x

/-- Every piece the loop stores is a block of `VB`. -/
theorem loop_pieces (𝒱 : Variants) (c : Dev nD) (bd : Option 𝒱.V) (i : grid0.Coords) (arg1 : Memref sig .tc .vmem S28x64x512 .i8) (harg1 : arg1.IsWhole) (arg2 : Memref sig .tc .vmem S28x512 .bf16) (harg2 : arg2.IsWhole) (arg3 : Memref sig .tc .vmem S1792x16 .bf16) (harg3 : arg3.IsWhole) (arg4 : Memref sig .tc .vmem S1792x16 .bf16) (harg4 : arg4.IsWhole) (arg5 : Memref sig .tc .vmem S16x512 .bf16) (harg5 : arg5.IsWhole) (arg6 : Memref sig .tc .vmem S1x3584x512 .bf16) (harg6 : arg6.IsWhole) (arg7 : Memref sig .tc .vmem S28x512 .f32) (harg7 : arg7.IsWhole)
    (x0 : Vec Ideal S28x64x512 .i8) (x1 : Vec Ideal S28x512 .bf16) (x2 x3 : Vec Ideal S1792x16 .bf16) (x4 : Vec Ideal S16x512 .bf16)
    (f7 : BufTy.Contents (Elt Ideal) arg7.view.ty) (h7 : arg7.view.read (Elt Ideal) f7 = x1) (k : Nat) (hk : k ≤ 28) :
    ∀ p ∈ pb_k0_t1 (F := Ideal) 𝒱 c bd i arg1 harg1 arg2 harg2 arg3 harg3 arg4 harg4 arg5 harg5 arg6 harg6 arg7 harg7 x4 (harg1.unread x0) (harg3.unread x2) (harg4.unread x3) f7 k, ∀ x : p.1.shape.Idx, p.2 x = VB x0 x1 x2 x3 x4 (p.1.emb x) := by
  induction k with
  | zero => intro p hp; exact absurd hp List.not_mem_nil
  | succ k ih =>
    have e := pb_k0_t1_succ (F := Ideal) 𝒱 c bd i arg1 harg1 arg2 harg2 arg3 harg3 arg4 harg4 arg5 harg5 arg6 harg6 arg7 harg7 x4 (harg1.unread x0) (harg3.unread x2) (harg4.unread x3) f7 ⟨k, hk⟩
    intro p hp
    rw [show k + 1 = (⟨k, hk⟩ : Fin k0_t1_loop.trips).val + 1 from rfl, e] at hp
    rcases List.mem_append.mp hp with h | h
    · exact (trip_pieces 𝒱 c bd i arg1 harg1 arg2 harg2 arg3 harg3 arg4 harg4 arg5 harg5 arg6 harg6 arg7 harg7 x0 x1 x2 x3 x4 f7 h7 _).mem p h
    · exact ih (by omega) p h

theorem z2 : ∀ d : Fin 2, (![0, 0] : Fin 2 → Nat) d = 0 := by decide

/-- A load of a whole buffer. -/
theorem whole_load {S : Shape} {e : EltTy} (v : View sig .tc .vmem S e) (f : v.ty.Contents (Elt Ideal)) {off : Fin S.rank → Nat} (h : ∀ d, off d = 0)
    (inb : ∀ d, off d + S.size d ≤ S.size d) : View.readAt (Elt Ideal) v (Rect.unit off S.size inb).toLoadRect f = v.read (Elt Ideal) f := by
  rw [View.readAt_eq_ld, View.ld_unit_zero (S := S) (funext h)]

/-- A store of a whole buffer leaves what was stored. -/
theorem st_whole {S : Shape} {e : EltTy} (v : View sig .tc .vmem S e) (f : v.ty.Contents (Elt Ideal)) (w : S.Idx → Elt Ideal e) (L : List (View.Piece (Elt Ideal) S e)) {off : Fin S.rank → Nat}
    (h : ∀ d, off d = 0) (inb : ∀ d, off d + S.size d ≤ S.size d) :
    v.read (Elt Ideal) (v.writes (Elt Ideal) f ((⟨Rect.unit off (no_index S.size) inb, w⟩ : View.Piece (Elt Ideal) S e) :: L)) = w := by
  funext y
  exact View.read_writes_cons_unit_of_mem v f inb w L y y rfl (fun d => by rw [h d]; omega)

/-- What the body leaves in its output buffer. -/
theorem out_eq (c : Dev nD) (i : grid0.Coords) (arg1 : Memref sig .tc .vmem S28x64x512 .i8) (harg1 : arg1.IsWhole) (arg2 : Memref sig .tc .vmem S28x512 .bf16) (harg2 : arg2.IsWhole) (arg3 : Memref sig .tc .vmem S1792x16 .bf16) (harg3 : arg3.IsWhole) (arg4 : Memref sig .tc .vmem S1792x16 .bf16) (harg4 : arg4.IsWhole) (arg5 : Memref sig .tc .vmem S16x512 .bf16) (harg5 : arg5.IsWhole) (arg6 : Memref sig .tc .vmem S1x3584x512 .bf16) (harg6 : arg6.IsWhole) (arg7 : Memref sig .tc .vmem S28x512 .f32) (harg7 : arg7.IsWhole)
    (x0 : Vec Ideal S28x64x512 .i8) (x1 : Vec Ideal S28x512 .bf16) (x2 x3 : Vec Ideal S1792x16 .bf16) (x4 : Vec Ideal S16x512 .bf16) :
    out0_A_5 (F := Ideal) c i arg1 harg1 arg2 harg2 arg3 harg3 arg4 harg4 arg5 harg5 arg6 harg6 arg7 harg7 x0 x1 x2 x3 x4 = VB x0 x1 x2 x3 x4 := by
  unfold out0_A_5
  funext y
  refine (View.read_writes_junk_apply_eq_canon ..).trans ?_
  refine View.canon_apply_of_pieces (Val := Elt Ideal) (e := .bf16) (VB x0 x1 x2 x3 x4) _ ?_ y (cover0_A_5 c i arg1 harg1 arg2 harg2 arg3 harg3 arg4 harg4 arg5 harg5 arg6 harg6 arg7 harg7 x0 x1 x2 x3 x4 y)
  unfold kernelRun0_A
  dsimp only
  sl_unfold_words
  rw [show View.readAt (Elt Ideal) arg5.view (Rect.unit (s := S16x512) ![0, 0] S16x512.size inb_S16x512_S16x512_0_0).toLoadRect (harg5.unread x4) = x4 from
    (whole_load (S := S16x512) arg5.view _ z2 _).trans (harg5.read_unread x4)]
  refine loop_pieces Variants.none c none i arg1 harg1 arg2 harg2 arg3 harg3 arg4 harg4 arg5 harg5 arg6 harg6 arg7 harg7 x0 x1 x2 x3 x4 _ ?_ _ (by decide)
  rw [show View.readAt (Elt Ideal) arg2.view (Rect.unit (s := S28x512) ![0, 0] S28x512.size inb_S28x512_S28x512_0_0).toLoadRect (harg2.unread x1) = x1 from
    (whole_load (S := S28x512) arg2.view _ z2 _).trans (harg2.read_unread x1), pay1_apply]
  exact st_whole (S := S28x512) (e := .f32) arg7.view _ _ _ z2 _

end Cert.BuildVIdeal.Hand
-- ==== Proof.VSpec.lean ====
/-
  The adapted weights as a function of the arguments: code times scale plus half the product of the two adapter factors.
-/
module

public import proofs.«01_k».proof.Proof.VPay

@[expose] public section

set_option maxRecDepth 16384

noncomputable section

namespace Cert.Hand

open Idealize.ShloMosaic Idealize.ShloMosaic.TcCoe Idealize.ShloMosaic.Pointwise
open Cert.BuildVIdeal
open scoped BigOperators

/-- The weight at row `d`, column `o`. Two rows share a packed byte: the even row takes its low four bits, the odd row its high four. -/
def vv (a0 : Vec Ideal S1792x18944 .i8) (a1 : Vec Ideal S28x18944 .bf16) (a2 : Vec Ideal S3584x16 .bf16) (a3 : Vec Ideal S16x18944 .bf16) (d : Fin 3584) (o : Fin 18944) : EReal :=
  (if d.val % 2 = 0 then Cert.BuildVIdeal.Hand.fld 28#32 (a0 (ix2 ⟨d.val / 2, by omega⟩ o)) else Cert.BuildVIdeal.Hand.fld 24#32 (a0 (ix2 ⟨d.val / 2, by omega⟩ o)))
      * a1 (ix2 ⟨d.val / 128, by omega⟩ o)
    + Ideal.ofBits .f32 0x3F000000#32 * ∑ k : Fin 16, a2 (ix2 d k) * a3 (ix2 k o)

end Cert.Hand
-- ==== Proof.VMain.lean ====
/-
  The array the weight kernel leaves: every column block, put together from the arguments.
-/
module

public import proofs.«01_k».proof.Proof.VBlk
public import proofs.«01_k».proof.Proof.VSpec
public import proofs.«01_k».proof.Proof.Gen.BuildVIdeal.Value
public import Idealize.ShloMosaic.Lib.Pipeline.Value
public import Idealize.ShloMosaic.Lib.Pointwise

@[expose] public section

set_option maxRecDepth 16384

noncomputable section

namespace Cert.BuildVIdeal.Hand

open Idealize.ShloMosaic Idealize.ShloMosaic.TcCoe Idealize.ShloMosaic.Pointwise
open Cert.BuildVIdeal Cert.BuildVIdeal.Gen Cert.BuildVIdeal.Value
open scoped BigOperators

variable (m : (ℓ : Loc nD τ sig) → Buf (Elt Ideal) ℓ)

theorem V0 (c : Dev nD) (g : Fin 28) (r : Fin 64) (o : Fin 18944) : (V m c main_v0 : Vec Ideal S28x64x18944 .i8) (ix3 g r o)
    = (m ((c : Thread nD τ).loc main_arg0) : Vec Ideal S1792x18944 .i8) (ix2 ⟨g.val * 64 + r.val, by omega⟩ o) := by
  simp only [V, hostOps0, List.flatten_cons, List.flatten_nil, List.append_nil, List.cons_append, List.nil_append]
  entry_read
  pointwise

theorem V1 (c : Dev nD) (r : Fin 1792) (k : Fin 16) : (V m c main_v1 : Vec Ideal S1792x16 .bf16) (ix2 r k)
    = (m ((c : Thread nD τ).loc main_arg2) : Vec Ideal S3584x16 .bf16) (ix2 ⟨2 * r.val, by omega⟩ k) := by
  simp only [V, hostOps0, List.flatten_cons, List.flatten_nil, List.append_nil, List.cons_append, List.nil_append]
  entry_read
  pointwise

theorem V2 (c : Dev nD) (r : Fin 1792) (k : Fin 16) : (V m c main_v2 : Vec Ideal S1792x16 .bf16) (ix2 r k)
    = (m ((c : Thread nD τ).loc main_arg2) : Vec Ideal S3584x16 .bf16) (ix2 ⟨1 + 2 * r.val, by omega⟩ k) := by
  simp only [V, hostOps0, List.flatten_cons, List.flatten_nil, List.append_nil, List.cons_append, List.nil_append]
  entry_read
  pointwise

theorem wi0 : ∀ t : Fin grid0.N, win0_0.index t 0 = 0 ∧ win0_0.index t 1 = 0 ∧ win0_0.index t 2 = t.val := by decide +kernel
theorem wi1 : ∀ t : Fin grid0.N, win0_1.index t 0 = 0 ∧ win0_1.index t 1 = t.val := by decide +kernel
theorem wi2 : ∀ t : Fin grid0.N, win0_2.index t 0 = 0 ∧ win0_2.index t 1 = 0 := by decide +kernel
theorem wi3 : ∀ t : Fin grid0.N, win0_3.index t 0 = 0 ∧ win0_3.index t 1 = 0 := by decide +kernel
theorem wi4 : ∀ t : Fin grid0.N, win0_4.index t 0 = 0 ∧ win0_4.index t 1 = t.val := by decide +kernel
theorem wi5 : ∀ t : Fin grid0.N, win0_5.index t 0 = t.val ∧ win0_5.index t 1 = 0 ∧ win0_5.index t 2 = 0 := by decide +kernel

theorem lt37 (t : Fin cfg0.N) : t.val < 37 := lt_of_lt_of_eq t.isLt (by decide : grid0.N = 37)

theorem blk0 (c : Dev nD) (t : Fin cfg0.N) (g : Fin 28) (r : Fin 64) (o : Fin 512) : (iblk m c 0 t : Vec Ideal S28x64x512 .i8) (ix3 g r o)
    = (V m c main_v0 : Vec Ideal S28x64x18944 .i8) (ix3 g r ⟨512 * t.val + o.val, (by have := lt37 t; omega)⟩) := by
  have hi := wi0 t
  unfold iblk
  rw [View.read_apply]
  show V m c main_v0 _ = V m c main_v0 _
  congr 1
  funext a
  apply Fin.ext
  match a with
  | ⟨0, _⟩ => show win0_0.index t 0 * 28 + 1 * g.val = g.val; rw [hi.1]; omega
  | ⟨1, _⟩ => show win0_0.index t 1 * 64 + 1 * r.val = r.val; rw [hi.2.1]; omega
  | ⟨2, _⟩ => show win0_0.index t 2 * 512 + 1 * o.val = 512 * t.val + o.val; rw [hi.2.2]; omega

theorem blk1 (c : Dev nD) (t : Fin cfg0.N) (g : Fin 28) (o : Fin 512) : (iblk m c 1 t : Vec Ideal S28x512 .bf16) (ix2 g o)
    = (V m c main_arg1 : Vec Ideal S28x18944 .bf16) (ix2 g ⟨512 * t.val + o.val, (by have := lt37 t; omega)⟩) := by
  have hi := wi1 t
  unfold iblk
  rw [View.read_apply]
  show V m c main_arg1 _ = V m c main_arg1 _
  congr 1
  funext a
  apply Fin.ext
  match a with
  | ⟨0, _⟩ => show win0_1.index t 0 * 28 + 1 * g.val = g.val; rw [hi.1]; omega
  | ⟨1, _⟩ => show win0_1.index t 1 * 512 + 1 * o.val = 512 * t.val + o.val; rw [hi.2]; omega

theorem blk2 (c : Dev nD) (t : Fin cfg0.N) (r : Fin 1792) (k : Fin 16) : (iblk m c 2 t : Vec Ideal S1792x16 .bf16) (ix2 r k)
    = (V m c main_v1 : Vec Ideal S1792x16 .bf16) (ix2 r k) := by
  have hi := wi2 t
  unfold iblk
  rw [View.read_apply]
  show V m c main_v1 _ = V m c main_v1 _
  congr 1
  funext a
  apply Fin.ext
  match a with
  | ⟨0, _⟩ => show win0_2.index t 0 * 1792 + 1 * r.val = r.val; rw [hi.1]; omega
  | ⟨1, _⟩ => show win0_2.index t 1 * 16 + 1 * k.val = k.val; rw [hi.2]; omega

theorem blk3 (c : Dev nD) (t : Fin cfg0.N) (r : Fin 1792) (k : Fin 16) : (iblk m c 3 t : Vec Ideal S1792x16 .bf16) (ix2 r k)
    = (V m c main_v2 : Vec Ideal S1792x16 .bf16) (ix2 r k) := by
  have hi := wi3 t
  unfold iblk
  rw [View.read_apply]
  show V m c main_v2 _ = V m c main_v2 _
  congr 1
  funext a
  apply Fin.ext
  match a with
  | ⟨0, _⟩ => show win0_3.index t 0 * 1792 + 1 * r.val = r.val; rw [hi.1]; omega
  | ⟨1, _⟩ => show win0_3.index t 1 * 16 + 1 * k.val = k.val; rw [hi.2]; omega

theorem blk4 (c : Dev nD) (t : Fin cfg0.N) (k : Fin 16) (o : Fin 512) : (iblk m c 4 t : Vec Ideal S16x512 .bf16) (ix2 k o)
    = (V m c main_arg3 : Vec Ideal S16x18944 .bf16) (ix2 k ⟨512 * t.val + o.val, (by have := lt37 t; omega)⟩) := by
  have hi := wi4 t
  unfold iblk
  rw [View.read_apply]
  show V m c main_arg3 _ = V m c main_arg3 _
  congr 1
  funext a
  apply Fin.ext
  match a with
  | ⟨0, _⟩ => show win0_4.index t 0 * 16 + 1 * k.val = k.val; rw [hi.1]; omega
  | ⟨1, _⟩ => show win0_4.index t 1 * 512 + 1 * o.val = 512 * t.val + o.val; rw [hi.2]; omega

theorem blk1' (c : Dev nD) (t : Fin cfg0.N) (g : Fin 28) (o : Fin 512) : (iblk m c 1 t : Vec Ideal S28x512 .bf16) (ix2 g o)
    = (m ((c : Thread nD τ).loc main_arg1) : Vec Ideal S28x18944 .bf16) (ix2 g ⟨512 * t.val + o.val, (by have := lt37 t; omega)⟩) :=
  (blk1 m c t g o).trans (congrFun (V_main_arg1 m c) _)

theorem blk4' (c : Dev nD) (t : Fin cfg0.N) (k : Fin 16) (o : Fin 512) : (iblk m c 4 t : Vec Ideal S16x512 .bf16) (ix2 k o)
    = (m ((c : Thread nD τ).loc main_arg3) : Vec Ideal S16x18944 .bf16) (ix2 k ⟨512 * t.val + o.val, (by have := lt37 t; omega)⟩) :=
  (blk4 m c t k o).trans (congrFun (V_main_arg3 m c) _)

/-- The weights of a memory's arguments. -/
def wv (c : Dev nD) (d : Fin 3584) (o : Fin 18944) : EReal :=
  Cert.Hand.vv (m ((c : Thread nD τ).loc main_arg0)) (m ((c : Thread nD τ).loc main_arg1)) (m ((c : Thread nD τ).loc main_arg2)) (m ((c : Thread nD τ).loc main_arg3)) d o

/-- The array of column blocks. -/
def GV (c : Dev nD) : Vec Ideal S37x3584x512 .bf16 :=
  fun i => wv m c (i 1) ⟨512 * (i 0).val + (i 2).val, by
    have h0 : (i 0).val < 37 := (i 0).isLt
    have h2 : (i 2).val < 512 := (i 2).isLt
    omega⟩

theorem row_eq (c : Dev nD) (t : Fin cfg0.N) (d : Fin 3584) (o : Fin 512) :
    vrow (iblk m c 0 t) (iblk m c 1 t) (iblk m c 2 t) (iblk m c 3 t) (iblk m c 4 t) d o
      = wv m c d ⟨512 * t.val + o.val, (by have := lt37 t; omega)⟩ := by
  have hd := d.isLt
  unfold vrow wv Cert.Hand.vv
  simp only [blk0 m c t, blk1' m c t, blk2 m c t, blk3 m c t, blk4' m c t, V0 m c, V1 m c, V2 m c]
  have e1 : d.val / 128 * 64 + d.val % 128 / 2 = d.val / 2 := by omega
  by_cases h : d.val % 2 = 0
  · have e2 : (⟨2 * (d.val / 2), by omega⟩ : Fin 3584) = d := Fin.ext (by show 2 * (d.val / 2) = d.val; omega)
    simp only [if_pos h, e1, e2]
  · have e2 : (⟨1 + 2 * (d.val / 2), by omega⟩ : Fin 3584) = d := Fin.ext (by show 1 + 2 * (d.val / 2) = d.val; omega)
    simp only [if_neg h, e1, e2]

theorem emb5 (t : Fin cfg0.N) (y : S1x3584x512.Idx) : ((cfg0.win 5).blk t).view.emb y = (ix3 (⟨t.val, lt37 t⟩ : Fin 37) (y 1 : Fin 3584) (y 2 : Fin 512) : S37x3584x512.Idx) := by
  have hi := wi5 t
  have y0 : (y 0).val < 1 := (y 0).isLt
  funext a; apply Fin.ext
  match a with
  | ⟨0, _⟩ => show win0_5.index t 0 * 1 + 1 * (y 0).val = t.val; rw [hi.1]; omega
  | ⟨1, _⟩ => show win0_5.index t 1 * 3584 + 1 * (y 1).val = (y 1).val; rw [hi.2.1]; omega
  | ⟨2, _⟩ => show win0_5.index t 2 * 512 + 1 * (y 2).val = (y 2).val; rw [hi.2.2]; omega

theorem mem5 (t : Fin cfg0.N) (i : S37x3584x512.Idx) (h : (i 0).val = t.val) : i ∈ ((cfg0.win 5).blk t).view.set := by
  show i ∈ ((View.whole main_v3).slice (win0_5.rect t)).set
  rw [View.set_slice_whole, Rect.mem_set_unit]
  intro a
  have hi := wi5 t
  have i1 : (i 1).val < 3584 := (i 1).isLt
  have i2 : (i 2).val < 512 := (i 2).isLt
  match a with
  | ⟨0, _⟩ => show win0_5.index t 0 * 1 ≤ (i 0).val ∧ (i 0).val < win0_5.index t 0 * 1 + 1; rw [hi.1]; omega
  | ⟨1, _⟩ => show win0_5.index t 1 * 3584 ≤ (i 1).val ∧ (i 1).val < win0_5.index t 1 * 3584 + 3584; rw [hi.2.1]; omega
  | ⟨2, _⟩ => show win0_5.index t 2 * 512 ≤ (i 2).val ∧ (i 2).val < win0_5.index t 2 * 512 + 512; rw [hi.2.2]; omega

/-- The index of a result element's own grid point. -/
def pt (i : S37x3584x512.Idx) : Fin cfg0.N := ⟨(i 0).val, lt_of_lt_of_eq (show (i 0).val < 37 from (i 0).isLt) (by decide : 37 = grid0.N)⟩

theorem fl5 : ∀ t : Fin cfg0.N, (cfg0.win 5).flush t = true :=
  (by decide +kernel : ∀ t : Fin grid0.N, win0_5.flush t = true)

theorem arr_eq (c : Dev nD) : (dats m 0 c).arrAt 5 cfg0.N = GV m c := by
  refine (dats m 0 c).arrAt_eq_of_cover 5 (GV m c) (fun t hf => ?_) (fun i => ⟨pt i, fl5 _, mem5 (pt i) i rfl⟩)
  rw [flushed5_A, out_eq]
  funext y
  rw [View.read_apply]
  have e : GV m c (((cfg0.win 5).blk t).view.emb y) = _ := congrArg (GV m c) (emb5 t y)
  refine Eq.trans ?_ e.symm
  exact row_eq m c t (y 1) (y 2)

end Cert.BuildVIdeal.Hand
-- ==== Proof.VRef.lean ====
/-
  The weight reference, read element by element.
-/
module

public import proofs.«01_k».proof.Proof.VSpec
public import proofs.«01_k».proof.Proof.Gen.BuildVRefIdeal.Read
public import Idealize.ShloMosaic.Lib.Pipeline.Value
public import Idealize.ShloMosaic.Lib.Pointwise

@[expose] public section

set_option maxRecDepth 16384

noncomputable section

namespace Cert.BuildVRefIdeal.Hand

open Idealize.ShloMosaic Idealize.ShloMosaic.TcCoe Idealize.ShloMosaic.Pointwise
open Cert.BuildVRefIdeal Cert.BuildVRefIdeal.Gen Cert.BuildVRefIdeal.Read
open scoped BigOperators

/-- Sign extension of the low four bits, by shifts and by masking. -/
theorem code_lo : ∀ x : BitVec 8, IntOp.shrsi .vector (IntOp.shli .vector (x.setWidth 32) 28#32) 28#32
    = IntOp.subi (IntOp.xori (IntOp.andi (x.setWidth 32) 15#32) 8#32) 8#32 := by decide +kernel

/-- Sign extension of the high four bits, by shifts and by masking. -/
theorem code_hi : ∀ x : BitVec 8, IntOp.shrsi .vector (IntOp.shli .vector (x.setWidth 32) 24#32) 28#32
    = IntOp.subi (IntOp.xori (IntOp.andi (IntOp.shrsi .host (x.setWidth 32) 4#32) 15#32) 8#32) 8#32 := by decide +kernel

variable (x0 : Vec Ideal S1792x18944 .i8) (x1 : Vec Ideal S28x18944 .bf16) (x2 : Vec Ideal S3584x16 .bf16) (x3 : Vec Ideal S16x18944 .bf16)

theorem r7 (p : Fin 1792) (o : Fin 18944) : val_main_v7 (F := Ideal) x0 (ix2 p o) = Cert.BuildVIdeal.Hand.fld 28#32 (x0 (ix2 p o)) := by
  unfold Cert.BuildVIdeal.Hand.fld
  rw [code_lo]
  rw [val_main_v7_apply, val_main_v6_apply, val_main_v4_apply, val_main_v2_apply, val_main_v0_apply, val_main_v1_apply, val_main_v3_apply, val_main_v5_apply, val_main_c_apply, val_main_c_0_apply, val_main_c_1_apply]
  rfl

theorem r21 (p : Fin 1792) (o : Fin 18944) : val_main_v21 (F := Ideal) x0 (ix2 p o) = Cert.BuildVIdeal.Hand.fld 24#32 (x0 (ix2 p o)) := by
  unfold Cert.BuildVIdeal.Hand.fld
  rw [code_hi]
  rw [val_main_v21_apply, val_main_v20_apply, val_main_v18_apply, val_main_v16_apply, val_main_v14_apply, val_main_v0_apply, val_main_v13_apply, val_main_v15_apply, val_main_v17_apply, val_main_v19_apply, val_main_c_2_apply, val_main_c_3_apply, val_main_c_4_apply, val_main_c_5_apply]
  rfl

theorem r12 (p : Fin 1792) (o : Fin 18944) : val_main_v12 (F := Ideal) x0 x1 (ix2 p o)
    = val_main_v7 (F := Ideal) x0 (ix2 p o) * x1 (ix2 ⟨p.val / 64, by omega⟩ o) := by
  unfold val_main_v12 val_main_v11 val_main_v10 val_main_v9 val_main_v8
  generalize val_main_v7 (F := Ideal) x0 = y
  pointwise

theorem r26 (p : Fin 1792) (o : Fin 18944) : val_main_v26 (F := Ideal) x0 x1 (ix2 p o)
    = val_main_v21 (F := Ideal) x0 (ix2 p o) * x1 (ix2 ⟨p.val / 64, by omega⟩ o) := by
  unfold val_main_v26 val_main_v25 val_main_v24 val_main_v23 val_main_v22
  generalize val_main_v21 (F := Ideal) x0 = y
  pointwise

theorem r28 (p : Fin 1792) (o : Fin 18944) : val_main_v28 (F := Ideal) x2 x3 (ix2 p o)
    = ∑ k : Fin 16, x2 (ix2 ⟨2 * p.val, by omega⟩ k) * x3 (ix2 k o) := by
  unfold val_main_v28 val_main_v27
  pointwise

theorem r35 (p : Fin 1792) (o : Fin 18944) : val_main_v35 (F := Ideal) x2 x3 (ix2 p o)
    = ∑ k : Fin 16, x2 (ix2 ⟨1 + 2 * p.val, by omega⟩ k) * x3 (ix2 k o) := by
  unfold val_main_v35 val_main_v34
  pointwise

theorem r33 (p : Fin 1792) (o : Fin 18944) : val_main_v33 (F := Ideal) x0 x1 x2 x3 (ix2 p o)
    = Cert.Hand.vv x0 x1 x2 x3 ⟨2 * p.val, by omega⟩ o := by
  rw [val_main_v33_apply, val_main_v32_apply, val_main_v29_apply, val_main_v31_apply, val_main_v30_apply, val_main_cst_apply, r12, r7, r28]
  unfold Cert.Hand.vv
  have e1 : 2 * p.val % 2 = 0 := by omega
  have e2 : 2 * p.val / 2 = p.val := by omega
  have e3 : 2 * p.val / 128 = p.val / 64 := by omega
  simp only [if_pos e1, e2, e3]
  rfl

theorem r40 (p : Fin 1792) (o : Fin 18944) : val_main_v40 (F := Ideal) x0 x1 x2 x3 (ix2 p o)
    = Cert.Hand.vv x0 x1 x2 x3 ⟨1 + 2 * p.val, by omega⟩ o := by
  rw [val_main_v40_apply, val_main_v39_apply, val_main_v36_apply, val_main_v38_apply, val_main_v37_apply, val_main_cst_6_apply, r26, r21, r35]
  unfold Cert.Hand.vv
  have e1 : ¬ (1 + 2 * p.val) % 2 = 0 := by omega
  have e2 : (1 + 2 * p.val) / 2 = p.val := by omega
  have e3 : (1 + 2 * p.val) / 128 = p.val / 64 := by omega
  simp only [if_neg e1, e2, e3]
  rfl

theorem r43e (p : Fin 1792) (o : Fin 18944) : val_main_v43 (F := Ideal) x0 x1 x2 x3 (ix3 p (0 : Fin 2) o)
    = val_main_v33 (F := Ideal) x0 x1 x2 x3 (ix2 p o) := by
  unfold val_main_v43 val_main_v41 val_main_v42
  generalize val_main_v33 (F := Ideal) x0 x1 x2 x3 = y
  generalize val_main_v40 (F := Ideal) x0 x1 x2 x3 = z
  pointwise

theorem r43o (p : Fin 1792) (o : Fin 18944) : val_main_v43 (F := Ideal) x0 x1 x2 x3 (ix3 p (1 : Fin 2) o)
    = val_main_v40 (F := Ideal) x0 x1 x2 x3 (ix2 p o) := by
  unfold val_main_v43 val_main_v41 val_main_v42
  generalize val_main_v33 (F := Ideal) x0 x1 x2 x3 = y
  generalize val_main_v40 (F := Ideal) x0 x1 x2 x3 = z
  pointwise

/-- A row of the stacked weights: even rows from one half, odd rows from the other. -/
theorem r43 (p : Fin 1792) (q : Fin 2) (o : Fin 18944) : val_main_v43 (F := Ideal) x0 x1 x2 x3 (ix3 p q o)
    = Cert.Hand.vv x0 x1 x2 x3 ⟨2 * p.val + q.val, by omega⟩ o := by
  match q with
  | ⟨0, _⟩ => exact (r43e x0 x1 x2 x3 p o).trans (r33 x0 x1 x2 x3 p o)
  | ⟨1, _⟩ =>
    refine (r43o x0 x1 x2 x3 p o).trans ((r40 x0 x1 x2 x3 p o).trans ?_)
    exact congrArg (fun d => Cert.Hand.vv x0 x1 x2 x3 d o) (Fin.ext (Nat.add_comm _ _))

/-- The reference's element. -/
theorem r46 (i : S37x3584x512.Idx) (h : 512 * (i 0).val + (i 2).val < 18944) : val_main_v46 (F := Ideal) x0 x1 x2 x3 i
    = Cert.Hand.vv x0 x1 x2 x3 (i 1) ⟨512 * (i 0).val + (i 2).val, h⟩ := by
  have h0 : (i 0).val < 37 := (i 0).isLt
  have h1 : (i 1).val < 3584 := (i 1).isLt
  have h2 : (i 2).val < 512 := (i 2).isLt
  have e : idx_main_v44 (idx_main_v45 (idx_main_v46 i)) = ix3 (⟨(i 1).val / 2, by omega⟩ : Fin 1792) (⟨(i 1).val % 2, by omega⟩ : Fin 2) (⟨512 * (i 0).val + (i 2).val, h⟩ : Fin 18944) := by
    funext a; apply Fin.ext
    match a with
    | ⟨0, _⟩ => simp [idx_main_v44, idx_main_v45, idx_main_v46]; omega
    | ⟨1, _⟩ => simp [idx_main_v44, idx_main_v45, idx_main_v46]; omega
    | ⟨2, _⟩ => simp [idx_main_v44, idx_main_v45, idx_main_v46]; omega
  rw [val_main_v46_apply, val_main_v45_apply, val_main_v44_apply, e, r43]
  exact congrArg (fun d => Cert.Hand.vv x0 x1 x2 x3 d _) (Fin.ext (by show 2 * ((i 1).val / 2) + (i 1).val % 2 = (i 1).val; omega))

end Cert.BuildVRefIdeal.Hand
-- ==== Proof.VAlg.lean ====
/-
  The weight kernel against its reference.
-/
module

public import proofs.«01_k».proof.Proof.VMain
public import proofs.«01_k».proof.Proof.VRef
public import proofs.«01_k».proof.Defs

@[expose] public section

set_option maxRecDepth 16384

noncomputable section

namespace Cert.Hand

open Idealize.ShloMosaic Idealize.ShloMosaic.TcCoe Idealize.ShloMosaic.Pointwise Idealize.SL.Sem

/-- The claim about the weight kernel. -/
theorem algebraic_v : Cert.algebraic_BuildVIdeal_BuildVRefIdeal := by
  intro m g m' g' _ hag
  refine ⟨fun c => Cert.BuildVIdeal.Hand.GV m c, ?_, ?_⟩
  · refine (θ_run _ _ _).mono (fun r h c => ?_) (Cert.BuildVIdeal.Value.run_blocks m g)
    obtain ⟨h3, hargs⟩ := h c
    exact ⟨h3.trans (Cert.BuildVIdeal.Hand.arr_eq m c), hargs⟩
  · refine (θ_run _ _ _).mono (fun r h c => ?_) (Cert.BuildVRefIdeal.Value.run m' g')
    obtain ⟨h46, hargs⟩ := h c
    refine ⟨(h46.trans (Cert.BuildVRefIdeal.Read.val_main_v46_eq _ _ _ _)).trans ?_, hargs⟩
    obtain ⟨h0, h1, h2, h3⟩ := hag c
    rw [h0, h1, h2, h3]
    funext i
    exact Cert.BuildVRefIdeal.Hand.r46 _ _ _ _ i _

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.BuildV
public import proofs.«01_k».proof.Proof.Gen.BuildV.Skeleton
public import proofs.«01_k».proof.Proof.Gen.BuildV.Loops
public import proofs.«01_k».proof.Proof.Gen.BuildV.Launch
public import proofs.«01_k».proof.Proof.Gen.BuildV.Points
public import proofs.«01_k».proof.Proof.Gen.BuildV.Frame
public import proofs.«01_k».proof.Proof.Gen.BuildVIdeal
public import proofs.«01_k».proof.Proof.Gen.BuildVIdeal.Skeleton
public import proofs.«01_k».proof.Proof.Gen.BuildVIdeal.Loops
public import proofs.«01_k».proof.Proof.Gen.BuildVIdeal.Launch
public import proofs.«01_k».proof.Proof.Gen.BuildVIdeal.Points
public import proofs.«01_k».proof.Proof.Gen.BuildVIdeal.Frame
public import proofs.«01_k».proof.Proof.Gen.BuildVRefIdeal
public import proofs.«01_k».proof.Proof.Gen.On_positive_norm
public import proofs.«01_k».proof.Proof.Gen.KernelIdeal.Value
public import proofs.«01_k».proof.Proof.Gen.BuildVIdeal.Value
public import proofs.«01_k».proof.Proof.Gen.ReferenceIdeal.Read
public import proofs.«01_k».proof.Proof.Gen.BuildVRefIdeal.Read
public import proofs.«01_k».proof.Proof.KAlg
public import proofs.«01_k».proof.Proof.VAlg
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The one substitution the packing rule makes is sound at the shapes it is used at. -/
theorem preserves_v : Cert.preserves_BuildV_BuildVIdeal :=
  ⟨IdealRules.bf16_pair.packStatement _, IdealRules.bf16_pair.statement _ _ Cert.BuildVIdeal.Gen.bitcasts_S128x512_w16_S64x512_w32⟩

/-- The reference of the weight update holds no semaphore and leaves its arguments. -/
theorem frame_vref : Cert.quiescent_BuildVRefIdeal := fun m ρ _ =>
  (θ_run _ _ _).mono (fun r h => ⟨fun c => (h c).2, sem_eq_zero_of_no_sems rfl _⟩) (Cert.BuildVRefIdeal.Value.run m ρ)

theorem claim : Cert.Claim :=
  ⟨Cert.Kernel.Gen.facts, Cert.KernelIdeal.Gen.facts, Cert.ReferenceIdeal.Gen.facts, Cert.BuildV.Gen.facts, Cert.BuildVIdeal.Gen.facts, Cert.BuildVRefIdeal.Gen.facts, Cert.On_positive_norm.Gen.facts,
    fun m ρ _ => Cert.Kernel.Gen.frame m ρ, fun m ρ _ => Cert.KernelIdeal.Gen.frame m ρ, fun m ρ _ => Cert.ReferenceIdeal.Gen.frame m ρ,
    fun m ρ _ => Cert.BuildV.Gen.frame m ρ, fun m ρ _ => Cert.BuildVIdeal.Gen.frame m ρ, frame_vref,
    trivial, Cert.Hand.algebraic, preserves_v, Cert.Hand.algebraic_v⟩

end Cert.Proof

end
